-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1029) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x224x224x3 : Shape := ⟨4, ![64, 224, 224, 3]⟩
abbrev S75x224 : Shape := ⟨2, ![75, 224]⟩
abbrev S75x75 : Shape := ⟨2, ![75, 75]⟩
abbrev S45x224 : Shape := ⟨2, ![45, 224]⟩
abbrev S45x45 : Shape := ⟨2, ![45, 45]⟩
abbrev S32x224 : Shape := ⟨2, ![32, 224]⟩
abbrev S32x32 : Shape := ⟨2, ![32, 32]⟩
abbrev S25x224 : Shape := ⟨2, ![25, 224]⟩
abbrev S25x25 : Shape := ⟨2, ![25, 25]⟩
abbrev S21x224 : Shape := ⟨2, ![21, 224]⟩
abbrev S21x21 : Shape := ⟨2, ![21, 21]⟩
abbrev S64x3x224x224 : Shape := ⟨4, ![64, 3, 224, 224]⟩
abbrev S8x8x45 : Shape := ⟨3, ![8, 8, 45]⟩
abbrev S8x3x224x224 : Shape := ⟨4, ![8, 3, 224, 224]⟩
abbrev S1x8x45 : Shape := ⟨3, ![1, 8, 45]⟩
abbrev S1x45 : Shape := ⟨2, ![1, 45]⟩
abbrev S1x1x224x224 : Shape := ⟨4, ![1, 1, 224, 224]⟩
abbrev S224x224 : Shape := ⟨2, ![224, 224]⟩
abbrev S1x75x75 : Shape := ⟨3, ![1, 75, 75]⟩
abbrev S1 : Shape := ⟨1, ![1]⟩
abbrev S1x1x1 : Shape := ⟨3, ![1, 1, 1]⟩
abbrev S1x45x45 : Shape := ⟨3, ![1, 45, 45]⟩
abbrev S1x32x32 : Shape := ⟨3, ![1, 32, 32]⟩
abbrev S1x25x25 : Shape := ⟨3, ![1, 25, 25]⟩
abbrev S1x21x21 : Shape := ⟨3, ![1, 21, 21]⟩
abbrev S8x45 : Shape := ⟨2, ![8, 45]⟩

abbrev nBuf : Space → Nat
  | .hbm => 18
  | .vmem => 19
  | .smem => 0
  | _ => 0

abbrev bufTy : (tb : Table) → Fin (tcTables nBuf tb) → BufTy
  | .hbm, ⟨0, _⟩ => ⟨S64x224x224x3, .f32⟩
  | .hbm, ⟨1, _⟩ => ⟨S75x224, .f32⟩
  | .hbm, ⟨2, _⟩ => ⟨S75x224, .f32⟩
  | .hbm, ⟨3, _⟩ => ⟨S75x75, .f32⟩
  | .hbm, ⟨4, _⟩ => ⟨S45x224, .f32⟩
  | .hbm, ⟨5, _⟩ => ⟨S45x224, .f32⟩
  | .hbm, ⟨6, _⟩ => ⟨S45x45, .f32⟩
  | .hbm, ⟨7, _⟩ => ⟨S32x224, .f32⟩
  | .hbm, ⟨8, _⟩ => ⟨S32x224, .f32⟩
  | .hbm, ⟨9, _⟩ => ⟨S32x32, .f32⟩
  | .hbm, ⟨10, _⟩ => ⟨S25x224, .f32⟩
  | .hbm, ⟨11, _⟩ => ⟨S25x224, .f32⟩
  | .hbm, ⟨12, _⟩ => ⟨S25x25, .f32⟩
  | .hbm, ⟨13, _⟩ => ⟨S21x224, .f32⟩
  | .hbm, ⟨14, _⟩ => ⟨S21x224, .f32⟩
  | .hbm, ⟨15, _⟩ => ⟨S21x21, .f32⟩
  | .hbm, ⟨16, _⟩ => ⟨S64x3x224x224, .f32⟩
  | .hbm, ⟨17, _⟩ => ⟨S8x8x45, .f32⟩
  | .local _ .vmem, ⟨0, _⟩ => ⟨S8x3x224x224, .f32⟩
  | .local _ .vmem, ⟨1, _⟩ => ⟨S8x3x224x224, .f32⟩
  | .local _ .vmem, ⟨2, _⟩ => ⟨S75x224, .f32⟩
  | .local _ .vmem, ⟨3, _⟩ => ⟨S75x224, .f32⟩
  | .local _ .vmem, ⟨4, _⟩ => ⟨S75x75, .f32⟩
  | .local _ .vmem, ⟨5, _⟩ => ⟨S45x224, .f32⟩
  | .local _ .vmem, ⟨6, _⟩ => ⟨S45x224, .f32⟩
  | .local _ .vmem, ⟨7, _⟩ => ⟨S45x45, .f32⟩
  | .local _ .vmem, ⟨8, _⟩ => ⟨S32x224, .f32⟩
  | .local _ .vmem, ⟨9, _⟩ => ⟨S32x224, .f32⟩
  | .local _ .vmem, ⟨10, _⟩ => ⟨S32x32, .f32⟩
  | .local _ .vmem, ⟨11, _⟩ => ⟨S25x224, .f32⟩
  | .local _ .vmem, ⟨12, _⟩ => ⟨S25x224, .f32⟩
  | .local _ .vmem, ⟨13, _⟩ => ⟨S25x25, .f32⟩
  | .local _ .vmem, ⟨14, _⟩ => ⟨S21x224, .f32⟩
  | .local _ .vmem, ⟨15, _⟩ => ⟨S21x224, .f32⟩
  | .local _ .vmem, ⟨16, _⟩ => ⟨S21x21, .f32⟩
  | .local _ .vmem, ⟨17, _⟩ => ⟨S1x8x45, .f32⟩
  | .local _ .vmem, ⟨18, _⟩ => ⟨S1x8x45, .f32⟩
  | _, _ => ⟨S64x224x224x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_cst_2 : Ref sig .tc := ⟨.hbm, 4, rfl⟩
abbrev main_cst_3 : Ref sig .tc := ⟨.hbm, 5, rfl⟩
abbrev main_cst_4 : Ref sig .tc := ⟨.hbm, 6, rfl⟩
abbrev main_cst_5 : Ref sig .tc := ⟨.hbm, 7, rfl⟩
abbrev main_cst_6 : Ref sig .tc := ⟨.hbm, 8, rfl⟩
abbrev main_cst_7 : Ref sig .tc := ⟨.hbm, 9, rfl⟩
abbrev main_cst_8 : Ref sig .tc := ⟨.hbm, 10, rfl⟩
abbrev main_cst_9 : Ref sig .tc := ⟨.hbm, 11, rfl⟩
abbrev main_cst_10 : Ref sig .tc := ⟨.hbm, 12, rfl⟩
abbrev main_cst_11 : Ref sig .tc := ⟨.hbm, 13, rfl⟩
abbrev main_cst_12 : Ref sig .tc := ⟨.hbm, 14, rfl⟩
abbrev main_cst_13 : Ref sig .tc := ⟨.hbm, 15, rfl⟩
abbrev main_v0 : Ref sig .tc := ⟨.hbm, 16, rfl⟩
abbrev main_v1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x3x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S75x224 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S75x224 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S75x75 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S45x224 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S45x224 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S45x45 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x224 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x224 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S25x224 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S25x224 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S25x25 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S21x224 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S21x224 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S21x21 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x8x45 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S64x224x224x3 : Shape := ⟨4, ![64, 224, 224, 3]⟩
abbrev S_ : Shape := ⟨0, ![]⟩
abbrev S64x225x225x3 : Shape := ⟨4, ![64, 225, 225, 3]⟩
abbrev S64x75x3x75x3x3 : Shape := ⟨6, ![64, 75, 3, 75, 3, 3]⟩
abbrev S64x75x75x3x3x3 : Shape := ⟨6, ![64, 75, 75, 3, 3, 3]⟩
abbrev S64x5625x3x3x3 : Shape := ⟨5, ![64, 5625, 3, 3, 3]⟩
abbrev S64x5625x1x1x3 : Shape := ⟨5, ![64, 5625, 1, 1, 3]⟩
abbrev S64x5625x3 : Shape := ⟨3, ![64, 5625, 3]⟩
abbrev S64x5625x3x3 : Shape := ⟨4, ![64, 5625, 3, 3]⟩
abbrev S64x45x5x45x5x3 : Shape := ⟨6, ![64, 45, 5, 45, 5, 3]⟩
abbrev S64x45x45x5x5x3 : Shape := ⟨6, ![64, 45, 45, 5, 5, 3]⟩
abbrev S64x2025x5x5x3 : Shape := ⟨5, ![64, 2025, 5, 5, 3]⟩
abbrev S64x2025x1x1x3 : Shape := ⟨5, ![64, 2025, 1, 1, 3]⟩
abbrev S64x2025x3 : Shape := ⟨3, ![64, 2025, 3]⟩
abbrev S64x2025x5x5 : Shape := ⟨4, ![64, 2025, 5, 5]⟩
abbrev S64x32x7x32x7x3 : Shape := ⟨6, ![64, 32, 7, 32, 7, 3]⟩
abbrev S64x32x32x7x7x3 : Shape := ⟨6, ![64, 32, 32, 7, 7, 3]⟩
abbrev S64x1024x7x7x3 : Shape := ⟨5, ![64, 1024, 7, 7, 3]⟩
abbrev S64x1024x1x1x3 : Shape := ⟨5, ![64, 1024, 1, 1, 3]⟩
abbrev S64x1024x3 : Shape := ⟨3, ![64, 1024, 3]⟩
abbrev S64x1024x7x7 : Shape := ⟨4, ![64, 1024, 7, 7]⟩
abbrev S64x25x9x25x9x3 : Shape := ⟨6, ![64, 25, 9, 25, 9, 3]⟩
abbrev S64x25x25x9x9x3 : Shape := ⟨6, ![64, 25, 25, 9, 9, 3]⟩
abbrev S64x625x9x9x3 : Shape := ⟨5, ![64, 625, 9, 9, 3]⟩
abbrev S64x625x1x1x3 : Shape := ⟨5, ![64, 625, 1, 1, 3]⟩
abbrev S64x625x3 : Shape := ⟨3, ![64, 625, 3]⟩
abbrev S64x625x9x9 : Shape := ⟨4, ![64, 625, 9, 9]⟩
abbrev S64x231x231x3 : Shape := ⟨4, ![64, 231, 231, 3]⟩
abbrev S64x21x11x21x11x3 : Shape := ⟨6, ![64, 21, 11, 21, 11, 3]⟩
abbrev S64x21x21x11x11x3 : Shape := ⟨6, ![64, 21, 21, 11, 11, 3]⟩
abbrev S64x441x11x11x3 : Shape := ⟨5, ![64, 441, 11, 11, 3]⟩
abbrev S64x441x1x1x3 : Shape := ⟨5, ![64, 441, 1, 1, 3]⟩
abbrev S64x441x3 : Shape := ⟨3, ![64, 441, 3]⟩
abbrev S64x441x11x11 : Shape := ⟨4, ![64, 441, 11, 11]⟩
abbrev S64x5625 : Shape := ⟨2, ![64, 5625]⟩
abbrev S64 : Shape := ⟨1, ![64]⟩
abbrev S64x1 : Shape := ⟨2, ![64, 1]⟩
abbrev S360000 : Shape := ⟨1, ![360000]⟩
abbrev S576 : Shape := ⟨1, ![576]⟩
abbrev S360000x1 : Shape := ⟨2, ![360000, 1]⟩
abbrev S64x9 : Shape := ⟨2, ![64, 9]⟩
abbrev S9 : Shape := ⟨1, ![9]⟩
abbrev S1x9 : Shape := ⟨2, ![1, 9]⟩
abbrev S64x2025 : Shape := ⟨2, ![64, 2025]⟩
abbrev S129600 : Shape := ⟨1, ![129600]⟩
abbrev S1600 : Shape := ⟨1, ![1600]⟩
abbrev S129600x1 : Shape := ⟨2, ![129600, 1]⟩
abbrev S64x25 : Shape := ⟨2, ![64, 25]⟩
abbrev S25 : Shape := ⟨1, ![25]⟩
abbrev S1x25 : Shape := ⟨2, ![1, 25]⟩
abbrev S64x1024 : Shape := ⟨2, ![64, 1024]⟩
abbrev S65536 : Shape := ⟨1, ![65536]⟩
abbrev S3136 : Shape := ⟨1, ![3136]⟩
abbrev S65536x1 : Shape := ⟨2, ![65536, 1]⟩
abbrev S64x49 : Shape := ⟨2, ![64, 49]⟩
abbrev S49 : Shape := ⟨1, ![49]⟩
abbrev S1x49 : Shape := ⟨2, ![1, 49]⟩
abbrev S64x625 : Shape := ⟨2, ![64, 625]⟩
abbrev S40000 : Shape := ⟨1, ![40000]⟩
abbrev S5184 : Shape := ⟨1, ![5184]⟩
abbrev S40000x1 : Shape := ⟨2, ![40000, 1]⟩
abbrev S64x81 : Shape := ⟨2, ![64, 81]⟩
abbrev S81 : Shape := ⟨1, ![81]⟩
abbrev S1x81 : Shape := ⟨2, ![1, 81]⟩
abbrev S64x441 : Shape := ⟨2, ![64, 441]⟩
abbrev S28224 : Shape := ⟨1, ![28224]⟩
abbrev S7744 : Shape := ⟨1, ![7744]⟩
abbrev S28224x1 : Shape := ⟨2, ![28224, 1]⟩
abbrev S64x121 : Shape := ⟨2, ![64, 121]⟩
abbrev S121 : Shape := ⟨1, ![121]⟩
abbrev S1x121 : Shape := ⟨2, ![1, 121]⟩
abbrev S64x16 : Shape := ⟨2, ![64, 16]⟩
abbrev S64x13 : Shape := ⟨2, ![64, 13]⟩
abbrev S64x45 : Shape := ⟨2, ![64, 45]⟩
abbrev S8x8x45 : Shape := ⟨3, ![8, 8, 45]⟩

abbrev nBuf : Space → Nat
  | .hbm => 1326
  | .vmem => 0
  | .smem => 0
  | _ => 0

abbrev hbmTy0_0 (i : Nat) : BufTy := match i % 128 with
  | 0 => ⟨S64x224x224x3, .f32⟩
  | 1 => ⟨S_, .i32⟩
  | 2 => ⟨S_, .f32⟩
  | 3 => ⟨S64x225x225x3, .f32⟩
  | 4 => ⟨S64x75x3x75x3x3, .f32⟩
  | 5 => ⟨S64x75x75x3x3x3, .f32⟩
  | 6 => ⟨S64x5625x3x3x3, .f32⟩
  | 7 => ⟨S64x5625x1x1x3, .f32⟩
  | 8 => ⟨S64x5625x3, .f32⟩
  | 9 => ⟨S64x5625x1x1x3, .f32⟩
  | 10 => ⟨S64x5625x3x3x3, .f32⟩
  | 11 => ⟨S64x5625x3x3x3, .f32⟩
  | 12 => ⟨S64x5625x3x3x3, .f32⟩
  | 13 => ⟨S_, .f32⟩
  | 14 => ⟨S64x5625x3x3, .f32⟩
  | 15 => ⟨S_, .f32⟩
  | 16 => ⟨S64x5625x3x3, .f32⟩
  | 17 => ⟨S64x5625x3x3, .i1⟩
  | 18 => ⟨S64x5625x3x3, .i32⟩
  | 19 => ⟨S64x5625x3x3x3, .f32⟩
  | 20 => ⟨S_, .f32⟩
  | 21 => ⟨S64x5625x3x3, .f32⟩
  | 22 => ⟨S64x5625x3x3, .f32⟩
  | 23 => ⟨S_, .f32⟩
  | 24 => ⟨S64x5625x3x3, .f32⟩
  | 25 => ⟨S64x5625x3x3, .i1⟩
  | 26 => ⟨S64x5625x3x3, .i32⟩
  | 27 => ⟨S64x5625x3x3x3, .f32⟩
  | 28 => ⟨S_, .f32⟩
  | 29 => ⟨S64x5625x3x3, .f32⟩
  | 30 => ⟨S_, .f32⟩
  | 31 => ⟨S64x5625x3x3, .f32⟩
  | 32 => ⟨S64x5625x3x3, .i1⟩
  | 33 => ⟨S64x5625x3x3, .i32⟩
  | 34 => ⟨S_, .i32⟩
  | 35 => ⟨S_, .f32⟩
  | 36 => ⟨S64x225x225x3, .f32⟩
  | 37 => ⟨S64x45x5x45x5x3, .f32⟩
  | 38 => ⟨S64x45x45x5x5x3, .f32⟩
  | 39 => ⟨S64x2025x5x5x3, .f32⟩
  | 40 => ⟨S64x2025x1x1x3, .f32⟩
  | 41 => ⟨S64x2025x3, .f32⟩
  | 42 => ⟨S64x2025x1x1x3, .f32⟩
  | 43 => ⟨S64x2025x5x5x3, .f32⟩
  | 44 => ⟨S64x2025x5x5x3, .f32⟩
  | 45 => ⟨S64x2025x5x5x3, .f32⟩
  | 46 => ⟨S_, .f32⟩
  | 47 => ⟨S64x2025x5x5, .f32⟩
  | 48 => ⟨S_, .f32⟩
  | 49 => ⟨S64x2025x5x5, .f32⟩
  | 50 => ⟨S64x2025x5x5, .i1⟩
  | 51 => ⟨S64x2025x5x5, .i32⟩
  | 52 => ⟨S64x2025x5x5x3, .f32⟩
  | 53 => ⟨S_, .f32⟩
  | 54 => ⟨S64x2025x5x5, .f32⟩
  | 55 => ⟨S64x2025x5x5, .f32⟩
  | 56 => ⟨S_, .f32⟩
  | 57 => ⟨S64x2025x5x5, .f32⟩
  | 58 => ⟨S64x2025x5x5, .i1⟩
  | 59 => ⟨S64x2025x5x5, .i32⟩
  | 60 => ⟨S64x2025x5x5x3, .f32⟩
  | 61 => ⟨S_, .f32⟩
  | 62 => ⟨S64x2025x5x5, .f32⟩
  | 63 => ⟨S_, .f32⟩
  | 64 => ⟨S64x2025x5x5, .f32⟩
  | 65 => ⟨S64x2025x5x5, .i1⟩
  | 66 => ⟨S64x2025x5x5, .i32⟩
  | 67 => ⟨S_, .i32⟩
  | 68 => ⟨S_, .f32⟩
  | 69 => ⟨S64x224x224x3, .f32⟩
  | 70 => ⟨S64x32x7x32x7x3, .f32⟩
  | 71 => ⟨S64x32x32x7x7x3, .f32⟩
  | 72 => ⟨S64x1024x7x7x3, .f32⟩
  | 73 => ⟨S64x1024x1x1x3, .f32⟩
  | 74 => ⟨S64x1024x3, .f32⟩
  | 75 => ⟨S64x1024x1x1x3, .f32⟩
  | 76 => ⟨S64x1024x7x7x3, .f32⟩
  | 77 => ⟨S64x1024x7x7x3, .f32⟩
  | 78 => ⟨S64x1024x7x7x3, .f32⟩
  | 79 => ⟨S_, .f32⟩
  | 80 => ⟨S64x1024x7x7, .f32⟩
  | 81 => ⟨S_, .f32⟩
  | 82 => ⟨S64x1024x7x7, .f32⟩
  | 83 => ⟨S64x1024x7x7, .i1⟩
  | 84 => ⟨S64x1024x7x7, .i32⟩
  | 85 => ⟨S64x1024x7x7x3, .f32⟩
  | 86 => ⟨S_, .f32⟩
  | 87 => ⟨S64x1024x7x7, .f32⟩
  | 88 => ⟨S64x1024x7x7, .f32⟩
  | 89 => ⟨S_, .f32⟩
  | 90 => ⟨S64x1024x7x7, .f32⟩
  | 91 => ⟨S64x1024x7x7, .i1⟩
  | 92 => ⟨S64x1024x7x7, .i32⟩
  | 93 => ⟨S64x1024x7x7x3, .f32⟩
  | 94 => ⟨S_, .f32⟩
  | 95 => ⟨S64x1024x7x7, .f32⟩
  | 96 => ⟨S_, .f32⟩
  | 97 => ⟨S64x1024x7x7, .f32⟩
  | 98 => ⟨S64x1024x7x7, .i1⟩
  | 99 => ⟨S64x1024x7x7, .i32⟩
  | 100 => ⟨S_, .i32⟩
  | 101 => ⟨S_, .f32⟩
  | 102 => ⟨S64x225x225x3, .f32⟩
  | 103 => ⟨S64x25x9x25x9x3, .f32⟩
  | 104 => ⟨S64x25x25x9x9x3, .f32⟩
  | 105 => ⟨S64x625x9x9x3, .f32⟩
  | 106 => ⟨S64x625x1x1x3, .f32⟩
  | 107 => ⟨S64x625x3, .f32⟩
  | 108 => ⟨S64x625x1x1x3, .f32⟩
  | 109 => ⟨S64x625x9x9x3, .f32⟩
  | 110 => ⟨S64x625x9x9x3, .f32⟩
  | 111 => ⟨S64x625x9x9x3, .f32⟩
  | 112 => ⟨S_, .f32⟩
  | 113 => ⟨S64x625x9x9, .f32⟩
  | 114 => ⟨S_, .f32⟩
  | 115 => ⟨S64x625x9x9, .f32⟩
  | 116 => ⟨S64x625x9x9, .i1⟩
  | 117 => ⟨S64x625x9x9, .i32⟩
  | 118 => ⟨S64x625x9x9x3, .f32⟩
  | 119 => ⟨S_, .f32⟩
  | 120 => ⟨S64x625x9x9, .f32⟩
  | 121 => ⟨S64x625x9x9, .f32⟩
  | 122 => ⟨S_, .f32⟩
  | 123 => ⟨S64x625x9x9, .f32⟩
  | 124 => ⟨S64x625x9x9, .i1⟩
  | 125 => ⟨S64x625x9x9, .i32⟩
  | 126 => ⟨S64x625x9x9x3, .f32⟩
  | 127 => ⟨S_, .f32⟩
  | _ => ⟨S64x224x224x3, .f32⟩

abbrev hbmTy0_1 (i : Nat) : BufTy := match i % 128 with
  | 0 => ⟨S64x625x9x9, .f32⟩
  | 1 => ⟨S_, .f32⟩
  | 2 => ⟨S64x625x9x9, .f32⟩
  | 3 => ⟨S64x625x9x9, .i1⟩
  | 4 => ⟨S64x625x9x9, .i32⟩
  | 5 => ⟨S_, .i32⟩
  | 6 => ⟨S_, .f32⟩
  | 7 => ⟨S64x231x231x3, .f32⟩
  | 8 => ⟨S64x21x11x21x11x3, .f32⟩
  | 9 => ⟨S64x21x21x11x11x3, .f32⟩
  | 10 => ⟨S64x441x11x11x3, .f32⟩
  | 11 => ⟨S64x441x1x1x3, .f32⟩
  | 12 => ⟨S64x441x3, .f32⟩
  | 13 => ⟨S64x441x1x1x3, .f32⟩
  | 14 => ⟨S64x441x11x11x3, .f32⟩
  | 15 => ⟨S64x441x11x11x3, .f32⟩
  | 16 => ⟨S64x441x11x11x3, .f32⟩
  | 17 => ⟨S_, .f32⟩
  | 18 => ⟨S64x441x11x11, .f32⟩
  | 19 => ⟨S_, .f32⟩
  | 20 => ⟨S64x441x11x11, .f32⟩
  | 21 => ⟨S64x441x11x11, .i1⟩
  | 22 => ⟨S64x441x11x11, .i32⟩
  | 23 => ⟨S64x441x11x11x3, .f32⟩
  | 24 => ⟨S_, .f32⟩
  | 25 => ⟨S64x441x11x11, .f32⟩
  | 26 => ⟨S64x441x11x11, .f32⟩
  | 27 => ⟨S_, .f32⟩
  | 28 => ⟨S64x441x11x11, .f32⟩
  | 29 => ⟨S64x441x11x11, .i1⟩
  | 30 => ⟨S64x441x11x11, .i32⟩
  | 31 => ⟨S64x441x11x11x3, .f32⟩
  | 32 => ⟨S_, .f32⟩
  | 33 => ⟨S64x441x11x11, .f32⟩
  | 34 => ⟨S_, .f32⟩
  | 35 => ⟨S64x441x11x11, .f32⟩
  | 36 => ⟨S64x441x11x11, .i1⟩
  | 37 => ⟨S64x441x11x11, .i32⟩
  | 38 => ⟨S_, .i32⟩
  | 39 => ⟨S64x5625, .i32⟩
  | 40 => ⟨S64, .i32⟩
  | 41 => ⟨S64x1, .i32⟩
  | 42 => ⟨S_, .i32⟩
  | 43 => ⟨S64x1, .i32⟩
  | 44 => ⟨S64x1, .i32⟩
  | 45 => ⟨S_, .i32⟩
  | 46 => ⟨S64x5625, .i32⟩
  | 47 => ⟨S64x5625, .i32⟩
  | 48 => ⟨S64x5625, .i32⟩
  | 49 => ⟨S64x5625, .i32⟩
  | 50 => ⟨S360000, .i32⟩
  | 51 => ⟨S_, .i32⟩
  | 52 => ⟨S64x5625, .i32⟩
  | 53 => ⟨S64x5625, .i1⟩
  | 54 => ⟨S64x5625, .f32⟩
  | 55 => ⟨S360000, .f32⟩
  | 56 => ⟨S_, .f32⟩
  | 57 => ⟨S576, .f32⟩
  | 58 => ⟨S_, .i32⟩
  | 59 => ⟨S360000, .i32⟩
  | 60 => ⟨S360000, .i1⟩
  | 61 => ⟨S_, .i32⟩
  | 62 => ⟨S360000, .i32⟩
  | 63 => ⟨S360000, .i32⟩
  | 64 => ⟨S360000, .i32⟩
  | 65 => ⟨S360000x1, .i32⟩
  | 66 => ⟨S576, .f32⟩
  | 67 => ⟨S64x9, .f32⟩
  | 68 => ⟨S_, .f32⟩
  | 69 => ⟨S64x9, .f32⟩
  | 70 => ⟨S64x9, .f32⟩
  | 71 => ⟨S_, .f32⟩
  | 72 => ⟨S64, .f32⟩
  | 73 => ⟨S64x1, .f32⟩
  | 74 => ⟨S64x9, .f32⟩
  | 75 => ⟨S64x9, .f32⟩
  | 76 => ⟨S9, .f32⟩
  | 77 => ⟨S_, .f32⟩
  | 78 => ⟨S9, .f32⟩
  | 79 => ⟨S9, .f32⟩
  | 80 => ⟨S1x9, .f32⟩
  | 81 => ⟨S64x9, .f32⟩
  | 82 => ⟨S64x9, .f32⟩
  | 83 => ⟨S_, .f32⟩
  | 84 => ⟨S64, .f32⟩
  | 85 => ⟨S1x9, .f32⟩
  | 86 => ⟨S64x9, .f32⟩
  | 87 => ⟨S64x9, .f32⟩
  | 88 => ⟨S_, .f32⟩
  | 89 => ⟨S64, .f32⟩
  | 90 => ⟨S64, .f32⟩
  | 91 => ⟨S9, .f32⟩
  | 92 => ⟨S1x9, .f32⟩
  | 93 => ⟨S64x9, .f32⟩
  | 94 => ⟨S64x9, .f32⟩
  | 95 => ⟨S_, .f32⟩
  | 96 => ⟨S64, .f32⟩
  | 97 => ⟨S64, .f32⟩
  | 98 => ⟨S64, .f32⟩
  | 99 => ⟨S64x5625, .f32⟩
  | 100 => ⟨S_, .f32⟩
  | 101 => ⟨S64x5625, .f32⟩
  | 102 => ⟨S64x5625, .f32⟩
  | 103 => ⟨S_, .f32⟩
  | 104 => ⟨S64x5625, .f32⟩
  | 105 => ⟨S64x5625, .i1⟩
  | 106 => ⟨S64x5625, .f32⟩
  | 107 => ⟨S_, .f32⟩
  | 108 => ⟨S64, .f32⟩
  | 109 => ⟨S_, .f32⟩
  | 110 => ⟨S64, .f32⟩
  | 111 => ⟨S64, .f32⟩
  | 112 => ⟨S_, .i32⟩
  | 113 => ⟨S64x2025, .i32⟩
  | 114 => ⟨S64, .i32⟩
  | 115 => ⟨S64x1, .i32⟩
  | 116 => ⟨S_, .i32⟩
  | 117 => ⟨S64x1, .i32⟩
  | 118 => ⟨S64x1, .i32⟩
  | 119 => ⟨S_, .i32⟩
  | 120 => ⟨S64x2025, .i32⟩
  | 121 => ⟨S64x2025, .i32⟩
  | 122 => ⟨S64x2025, .i32⟩
  | 123 => ⟨S64x2025, .i32⟩
  | 124 => ⟨S129600, .i32⟩
  | 125 => ⟨S_, .i32⟩
  | 126 => ⟨S64x2025, .i32⟩
  | 127 => ⟨S64x2025, .i1⟩
  | _ => ⟨S64x224x224x3, .f32⟩

abbrev hbmTy0_2 (i : Nat) : BufTy := match i % 128 with
  | 0 => ⟨S64x2025, .f32⟩
  | 1 => ⟨S129600, .f32⟩
  | 2 => ⟨S_, .f32⟩
  | 3 => ⟨S1600, .f32⟩
  | 4 => ⟨S_, .i32⟩
  | 5 => ⟨S129600, .i32⟩
  | 6 => ⟨S129600, .i1⟩
  | 7 => ⟨S_, .i32⟩
  | 8 => ⟨S129600, .i32⟩
  | 9 => ⟨S129600, .i32⟩
  | 10 => ⟨S129600, .i32⟩
  | 11 => ⟨S129600x1, .i32⟩
  | 12 => ⟨S1600, .f32⟩
  | 13 => ⟨S64x25, .f32⟩
  | 14 => ⟨S_, .f32⟩
  | 15 => ⟨S64x25, .f32⟩
  | 16 => ⟨S64x25, .f32⟩
  | 17 => ⟨S_, .f32⟩
  | 18 => ⟨S64, .f32⟩
  | 19 => ⟨S64x1, .f32⟩
  | 20 => ⟨S64x25, .f32⟩
  | 21 => ⟨S64x25, .f32⟩
  | 22 => ⟨S25, .f32⟩
  | 23 => ⟨S_, .f32⟩
  | 24 => ⟨S25, .f32⟩
  | 25 => ⟨S25, .f32⟩
  | 26 => ⟨S1x25, .f32⟩
  | 27 => ⟨S64x25, .f32⟩
  | 28 => ⟨S64x25, .f32⟩
  | 29 => ⟨S_, .f32⟩
  | 30 => ⟨S64, .f32⟩
  | 31 => ⟨S1x25, .f32⟩
  | 32 => ⟨S64x25, .f32⟩
  | 33 => ⟨S64x25, .f32⟩
  | 34 => ⟨S_, .f32⟩
  | 35 => ⟨S64, .f32⟩
  | 36 => ⟨S64, .f32⟩
  | 37 => ⟨S25, .f32⟩
  | 38 => ⟨S1x25, .f32⟩
  | 39 => ⟨S64x25, .f32⟩
  | 40 => ⟨S64x25, .f32⟩
  | 41 => ⟨S_, .f32⟩
  | 42 => ⟨S64, .f32⟩
  | 43 => ⟨S64, .f32⟩
  | 44 => ⟨S64, .f32⟩
  | 45 => ⟨S64x2025, .f32⟩
  | 46 => ⟨S_, .f32⟩
  | 47 => ⟨S64x2025, .f32⟩
  | 48 => ⟨S64x2025, .f32⟩
  | 49 => ⟨S_, .f32⟩
  | 50 => ⟨S64x2025, .f32⟩
  | 51 => ⟨S64x2025, .i1⟩
  | 52 => ⟨S64x2025, .f32⟩
  | 53 => ⟨S_, .f32⟩
  | 54 => ⟨S64, .f32⟩
  | 55 => ⟨S_, .f32⟩
  | 56 => ⟨S64, .f32⟩
  | 57 => ⟨S64, .f32⟩
  | 58 => ⟨S_, .i32⟩
  | 59 => ⟨S64x1024, .i32⟩
  | 60 => ⟨S64, .i32⟩
  | 61 => ⟨S64x1, .i32⟩
  | 62 => ⟨S_, .i32⟩
  | 63 => ⟨S64x1, .i32⟩
  | 64 => ⟨S64x1, .i32⟩
  | 65 => ⟨S_, .i32⟩
  | 66 => ⟨S64x1024, .i32⟩
  | 67 => ⟨S64x1024, .i32⟩
  | 68 => ⟨S64x1024, .i32⟩
  | 69 => ⟨S64x1024, .i32⟩
  | 70 => ⟨S65536, .i32⟩
  | 71 => ⟨S_, .i32⟩
  | 72 => ⟨S64x1024, .i32⟩
  | 73 => ⟨S64x1024, .i1⟩
  | 74 => ⟨S64x1024, .f32⟩
  | 75 => ⟨S65536, .f32⟩
  | 76 => ⟨S_, .f32⟩
  | 77 => ⟨S3136, .f32⟩
  | 78 => ⟨S_, .i32⟩
  | 79 => ⟨S65536, .i32⟩
  | 80 => ⟨S65536, .i1⟩
  | 81 => ⟨S_, .i32⟩
  | 82 => ⟨S65536, .i32⟩
  | 83 => ⟨S65536, .i32⟩
  | 84 => ⟨S65536, .i32⟩
  | 85 => ⟨S65536x1, .i32⟩
  | 86 => ⟨S3136, .f32⟩
  | 87 => ⟨S64x49, .f32⟩
  | 88 => ⟨S_, .f32⟩
  | 89 => ⟨S64x49, .f32⟩
  | 90 => ⟨S64x49, .f32⟩
  | 91 => ⟨S_, .f32⟩
  | 92 => ⟨S64, .f32⟩
  | 93 => ⟨S64x1, .f32⟩
  | 94 => ⟨S64x49, .f32⟩
  | 95 => ⟨S64x49, .f32⟩
  | 96 => ⟨S49, .f32⟩
  | 97 => ⟨S_, .f32⟩
  | 98 => ⟨S49, .f32⟩
  | 99 => ⟨S49, .f32⟩
  | 100 => ⟨S1x49, .f32⟩
  | 101 => ⟨S64x49, .f32⟩
  | 102 => ⟨S64x49, .f32⟩
  | 103 => ⟨S_, .f32⟩
  | 104 => ⟨S64, .f32⟩
  | 105 => ⟨S1x49, .f32⟩
  | 106 => ⟨S64x49, .f32⟩
  | 107 => ⟨S64x49, .f32⟩
  | 108 => ⟨S_, .f32⟩
  | 109 => ⟨S64, .f32⟩
  | 110 => ⟨S64, .f32⟩
  | 111 => ⟨S49, .f32⟩
  | 112 => ⟨S1x49, .f32⟩
  | 113 => ⟨S64x49, .f32⟩
  | 114 => ⟨S64x49, .f32⟩
  | 115 => ⟨S_, .f32⟩
  | 116 => ⟨S64, .f32⟩
  | 117 => ⟨S64, .f32⟩
  | 118 => ⟨S64, .f32⟩
  | 119 => ⟨S64x1024, .f32⟩
  | 120 => ⟨S_, .f32⟩
  | 121 => ⟨S64x1024, .f32⟩
  | 122 => ⟨S64x1024, .f32⟩
  | 123 => ⟨S_, .f32⟩
  | 124 => ⟨S64x1024, .f32⟩
  | 125 => ⟨S64x1024, .i1⟩
  | 126 => ⟨S64x1024, .f32⟩
  | 127 => ⟨S_, .f32⟩
  | _ => ⟨S64x224x224x3, .f32⟩

abbrev hbmTy0_3 (i : Nat) : BufTy := match i % 128 with
  | 0 => ⟨S64, .f32⟩
  | 1 => ⟨S_, .f32⟩
  | 2 => ⟨S64, .f32⟩
  | 3 => ⟨S64, .f32⟩
  | 4 => ⟨S_, .i32⟩
  | 5 => ⟨S64x625, .i32⟩
  | 6 => ⟨S64, .i32⟩
  | 7 => ⟨S64x1, .i32⟩
  | 8 => ⟨S_, .i32⟩
  | 9 => ⟨S64x1, .i32⟩
  | 10 => ⟨S64x1, .i32⟩
  | 11 => ⟨S_, .i32⟩
  | 12 => ⟨S64x625, .i32⟩
  | 13 => ⟨S64x625, .i32⟩
  | 14 => ⟨S64x625, .i32⟩
  | 15 => ⟨S64x625, .i32⟩
  | 16 => ⟨S40000, .i32⟩
  | 17 => ⟨S_, .i32⟩
  | 18 => ⟨S64x625, .i32⟩
  | 19 => ⟨S64x625, .i1⟩
  | 20 => ⟨S64x625, .f32⟩
  | 21 => ⟨S40000, .f32⟩
  | 22 => ⟨S_, .f32⟩
  | 23 => ⟨S5184, .f32⟩
  | 24 => ⟨S_, .i32⟩
  | 25 => ⟨S40000, .i32⟩
  | 26 => ⟨S40000, .i1⟩
  | 27 => ⟨S_, .i32⟩
  | 28 => ⟨S40000, .i32⟩
  | 29 => ⟨S40000, .i32⟩
  | 30 => ⟨S40000, .i32⟩
  | 31 => ⟨S40000x1, .i32⟩
  | 32 => ⟨S5184, .f32⟩
  | 33 => ⟨S64x81, .f32⟩
  | 34 => ⟨S_, .f32⟩
  | 35 => ⟨S64x81, .f32⟩
  | 36 => ⟨S64x81, .f32⟩
  | 37 => ⟨S_, .f32⟩
  | 38 => ⟨S64, .f32⟩
  | 39 => ⟨S64x1, .f32⟩
  | 40 => ⟨S64x81, .f32⟩
  | 41 => ⟨S64x81, .f32⟩
  | 42 => ⟨S81, .f32⟩
  | 43 => ⟨S_, .f32⟩
  | 44 => ⟨S81, .f32⟩
  | 45 => ⟨S81, .f32⟩
  | 46 => ⟨S1x81, .f32⟩
  | 47 => ⟨S64x81, .f32⟩
  | 48 => ⟨S64x81, .f32⟩
  | 49 => ⟨S_, .f32⟩
  | 50 => ⟨S64, .f32⟩
  | 51 => ⟨S1x81, .f32⟩
  | 52 => ⟨S64x81, .f32⟩
  | 53 => ⟨S64x81, .f32⟩
  | 54 => ⟨S_, .f32⟩
  | 55 => ⟨S64, .f32⟩
  | 56 => ⟨S64, .f32⟩
  | 57 => ⟨S81, .f32⟩
  | 58 => ⟨S1x81, .f32⟩
  | 59 => ⟨S64x81, .f32⟩
  | 60 => ⟨S64x81, .f32⟩
  | 61 => ⟨S_, .f32⟩
  | 62 => ⟨S64, .f32⟩
  | 63 => ⟨S64, .f32⟩
  | 64 => ⟨S64, .f32⟩
  | 65 => ⟨S64x625, .f32⟩
  | 66 => ⟨S_, .f32⟩
  | 67 => ⟨S64x625, .f32⟩
  | 68 => ⟨S64x625, .f32⟩
  | 69 => ⟨S_, .f32⟩
  | 70 => ⟨S64x625, .f32⟩
  | 71 => ⟨S64x625, .i1⟩
  | 72 => ⟨S64x625, .f32⟩
  | 73 => ⟨S_, .f32⟩
  | 74 => ⟨S64, .f32⟩
  | 75 => ⟨S_, .f32⟩
  | 76 => ⟨S64, .f32⟩
  | 77 => ⟨S64, .f32⟩
  | 78 => ⟨S_, .i32⟩
  | 79 => ⟨S64x441, .i32⟩
  | 80 => ⟨S64, .i32⟩
  | 81 => ⟨S64x1, .i32⟩
  | 82 => ⟨S_, .i32⟩
  | 83 => ⟨S64x1, .i32⟩
  | 84 => ⟨S64x1, .i32⟩
  | 85 => ⟨S_, .i32⟩
  | 86 => ⟨S64x441, .i32⟩
  | 87 => ⟨S64x441, .i32⟩
  | 88 => ⟨S64x441, .i32⟩
  | 89 => ⟨S64x441, .i32⟩
  | 90 => ⟨S28224, .i32⟩
  | 91 => ⟨S_, .i32⟩
  | 92 => ⟨S64x441, .i32⟩
  | 93 => ⟨S64x441, .i1⟩
  | 94 => ⟨S64x441, .f32⟩
  | 95 => ⟨S28224, .f32⟩
  | 96 => ⟨S_, .f32⟩
  | 97 => ⟨S7744, .f32⟩
  | 98 => ⟨S_, .i32⟩
  | 99 => ⟨S28224, .i32⟩
  | 100 => ⟨S28224, .i1⟩
  | 101 => ⟨S_, .i32⟩
  | 102 => ⟨S28224, .i32⟩
  | 103 => ⟨S28224, .i32⟩
  | 104 => ⟨S28224, .i32⟩
  | 105 => ⟨S28224x1, .i32⟩
  | 106 => ⟨S7744, .f32⟩
  | 107 => ⟨S64x121, .f32⟩
  | 108 => ⟨S_, .f32⟩
  | 109 => ⟨S64x121, .f32⟩
  | 110 => ⟨S64x121, .f32⟩
  | 111 => ⟨S_, .f32⟩
  | 112 => ⟨S64, .f32⟩
  | 113 => ⟨S64x1, .f32⟩
  | 114 => ⟨S64x121, .f32⟩
  | 115 => ⟨S64x121, .f32⟩
  | 116 => ⟨S121, .f32⟩
  | 117 => ⟨S_, .f32⟩
  | 118 => ⟨S121, .f32⟩
  | 119 => ⟨S121, .f32⟩
  | 120 => ⟨S1x121, .f32⟩
  | 121 => ⟨S64x121, .f32⟩
  | 122 => ⟨S64x121, .f32⟩
  | 123 => ⟨S_, .f32⟩
  | 124 => ⟨S64, .f32⟩
  | 125 => ⟨S1x121, .f32⟩
  | 126 => ⟨S64x121, .f32⟩
  | 127 => ⟨S64x121, .f32⟩
  | _ => ⟨S64x224x224x3, .f32⟩

abbrev hbmTy0_4 (i : Nat) : BufTy := match i % 128 with
  | 0 => ⟨S_, .f32⟩
  | 1 => ⟨S64, .f32⟩
  | 2 => ⟨S64, .f32⟩
  | 3 => ⟨S121, .f32⟩
  | 4 => ⟨S1x121, .f32⟩
  | 5 => ⟨S64x121, .f32⟩
  | 6 => ⟨S64x121, .f32⟩
  | 7 => ⟨S_, .f32⟩
  | 8 => ⟨S64, .f32⟩
  | 9 => ⟨S64, .f32⟩
  | 10 => ⟨S64, .f32⟩
  | 11 => ⟨S64x441, .f32⟩
  | 12 => ⟨S_, .f32⟩
  | 13 => ⟨S64x441, .f32⟩
  | 14 => ⟨S64x441, .f32⟩
  | 15 => ⟨S_, .f32⟩
  | 16 => ⟨S64x441, .f32⟩
  | 17 => ⟨S64x441, .i1⟩
  | 18 => ⟨S64x441, .f32⟩
  | 19 => ⟨S_, .f32⟩
  | 20 => ⟨S64, .f32⟩
  | 21 => ⟨S_, .f32⟩
  | 22 => ⟨S64, .f32⟩
  | 23 => ⟨S64, .f32⟩
  | 24 => ⟨S_, .i32⟩
  | 25 => ⟨S64x5625, .i32⟩
  | 26 => ⟨S64, .i32⟩
  | 27 => ⟨S64x1, .i32⟩
  | 28 => ⟨S_, .i32⟩
  | 29 => ⟨S64x1, .i32⟩
  | 30 => ⟨S64x1, .i32⟩
  | 31 => ⟨S_, .i32⟩
  | 32 => ⟨S64x5625, .i32⟩
  | 33 => ⟨S64x5625, .i32⟩
  | 34 => ⟨S64x5625, .i32⟩
  | 35 => ⟨S64x5625, .i32⟩
  | 36 => ⟨S360000, .i32⟩
  | 37 => ⟨S_, .i32⟩
  | 38 => ⟨S64x5625, .i32⟩
  | 39 => ⟨S64x5625, .i1⟩
  | 40 => ⟨S64x5625, .f32⟩
  | 41 => ⟨S360000, .f32⟩
  | 42 => ⟨S_, .f32⟩
  | 43 => ⟨S576, .f32⟩
  | 44 => ⟨S_, .i32⟩
  | 45 => ⟨S360000, .i32⟩
  | 46 => ⟨S360000, .i1⟩
  | 47 => ⟨S_, .i32⟩
  | 48 => ⟨S360000, .i32⟩
  | 49 => ⟨S360000, .i32⟩
  | 50 => ⟨S360000, .i32⟩
  | 51 => ⟨S360000x1, .i32⟩
  | 52 => ⟨S576, .f32⟩
  | 53 => ⟨S64x9, .f32⟩
  | 54 => ⟨S_, .f32⟩
  | 55 => ⟨S64x9, .f32⟩
  | 56 => ⟨S64x9, .f32⟩
  | 57 => ⟨S_, .f32⟩
  | 58 => ⟨S64, .f32⟩
  | 59 => ⟨S64x1, .f32⟩
  | 60 => ⟨S64x9, .f32⟩
  | 61 => ⟨S64x9, .f32⟩
  | 62 => ⟨S9, .f32⟩
  | 63 => ⟨S_, .f32⟩
  | 64 => ⟨S9, .f32⟩
  | 65 => ⟨S9, .f32⟩
  | 66 => ⟨S1x9, .f32⟩
  | 67 => ⟨S64x9, .f32⟩
  | 68 => ⟨S64x9, .f32⟩
  | 69 => ⟨S_, .f32⟩
  | 70 => ⟨S64, .f32⟩
  | 71 => ⟨S1x9, .f32⟩
  | 72 => ⟨S64x9, .f32⟩
  | 73 => ⟨S64x9, .f32⟩
  | 74 => ⟨S_, .f32⟩
  | 75 => ⟨S64, .f32⟩
  | 76 => ⟨S64, .f32⟩
  | 77 => ⟨S9, .f32⟩
  | 78 => ⟨S1x9, .f32⟩
  | 79 => ⟨S64x9, .f32⟩
  | 80 => ⟨S64x9, .f32⟩
  | 81 => ⟨S_, .f32⟩
  | 82 => ⟨S64, .f32⟩
  | 83 => ⟨S64, .f32⟩
  | 84 => ⟨S64, .f32⟩
  | 85 => ⟨S64x5625, .f32⟩
  | 86 => ⟨S_, .f32⟩
  | 87 => ⟨S64x5625, .f32⟩
  | 88 => ⟨S64x5625, .f32⟩
  | 89 => ⟨S_, .f32⟩
  | 90 => ⟨S64x5625, .f32⟩
  | 91 => ⟨S64x5625, .i1⟩
  | 92 => ⟨S64x5625, .f32⟩
  | 93 => ⟨S_, .f32⟩
  | 94 => ⟨S64, .f32⟩
  | 95 => ⟨S_, .f32⟩
  | 96 => ⟨S64, .f32⟩
  | 97 => ⟨S64, .f32⟩
  | 98 => ⟨S_, .i32⟩
  | 99 => ⟨S64x2025, .i32⟩
  | 100 => ⟨S64, .i32⟩
  | 101 => ⟨S64x1, .i32⟩
  | 102 => ⟨S_, .i32⟩
  | 103 => ⟨S64x1, .i32⟩
  | 104 => ⟨S64x1, .i32⟩
  | 105 => ⟨S_, .i32⟩
  | 106 => ⟨S64x2025, .i32⟩
  | 107 => ⟨S64x2025, .i32⟩
  | 108 => ⟨S64x2025, .i32⟩
  | 109 => ⟨S64x2025, .i32⟩
  | 110 => ⟨S129600, .i32⟩
  | 111 => ⟨S_, .i32⟩
  | 112 => ⟨S64x2025, .i32⟩
  | 113 => ⟨S64x2025, .i1⟩
  | 114 => ⟨S64x2025, .f32⟩
  | 115 => ⟨S129600, .f32⟩
  | 116 => ⟨S_, .f32⟩
  | 117 => ⟨S1600, .f32⟩
  | 118 => ⟨S_, .i32⟩
  | 119 => ⟨S129600, .i32⟩
  | 120 => ⟨S129600, .i1⟩
  | 121 => ⟨S_, .i32⟩
  | 122 => ⟨S129600, .i32⟩
  | 123 => ⟨S129600, .i32⟩
  | 124 => ⟨S129600, .i32⟩
  | 125 => ⟨S129600x1, .i32⟩
  | 126 => ⟨S1600, .f32⟩
  | 127 => ⟨S64x25, .f32⟩
  | _ => ⟨S64x224x224x3, .f32⟩

abbrev hbmTy0_5 (i : Nat) : BufTy := match i % 128 with
  | 0 => ⟨S_, .f32⟩
  | 1 => ⟨S64x25, .f32⟩
  | 2 => ⟨S64x25, .f32⟩
  | 3 => ⟨S_, .f32⟩
  | 4 => ⟨S64, .f32⟩
  | 5 => ⟨S64x1, .f32⟩
  | 6 => ⟨S64x25, .f32⟩
  | 7 => ⟨S64x25, .f32⟩
  | 8 => ⟨S25, .f32⟩
  | 9 => ⟨S_, .f32⟩
  | 10 => ⟨S25, .f32⟩
  | 11 => ⟨S25, .f32⟩
  | 12 => ⟨S1x25, .f32⟩
  | 13 => ⟨S64x25, .f32⟩
  | 14 => ⟨S64x25, .f32⟩
  | 15 => ⟨S_, .f32⟩
  | 16 => ⟨S64, .f32⟩
  | 17 => ⟨S1x25, .f32⟩
  | 18 => ⟨S64x25, .f32⟩
  | 19 => ⟨S64x25, .f32⟩
  | 20 => ⟨S_, .f32⟩
  | 21 => ⟨S64, .f32⟩
  | 22 => ⟨S64, .f32⟩
  | 23 => ⟨S25, .f32⟩
  | 24 => ⟨S1x25, .f32⟩
  | 25 => ⟨S64x25, .f32⟩
  | 26 => ⟨S64x25, .f32⟩
  | 27 => ⟨S_, .f32⟩
  | 28 => ⟨S64, .f32⟩
  | 29 => ⟨S64, .f32⟩
  | 30 => ⟨S64, .f32⟩
  | 31 => ⟨S64x2025, .f32⟩
  | 32 => ⟨S_, .f32⟩
  | 33 => ⟨S64x2025, .f32⟩
  | 34 => ⟨S64x2025, .f32⟩
  | 35 => ⟨S_, .f32⟩
  | 36 => ⟨S64x2025, .f32⟩
  | 37 => ⟨S64x2025, .i1⟩
  | 38 => ⟨S64x2025, .f32⟩
  | 39 => ⟨S_, .f32⟩
  | 40 => ⟨S64, .f32⟩
  | 41 => ⟨S_, .f32⟩
  | 42 => ⟨S64, .f32⟩
  | 43 => ⟨S64, .f32⟩
  | 44 => ⟨S_, .i32⟩
  | 45 => ⟨S64x1024, .i32⟩
  | 46 => ⟨S64, .i32⟩
  | 47 => ⟨S64x1, .i32⟩
  | 48 => ⟨S_, .i32⟩
  | 49 => ⟨S64x1, .i32⟩
  | 50 => ⟨S64x1, .i32⟩
  | 51 => ⟨S_, .i32⟩
  | 52 => ⟨S64x1024, .i32⟩
  | 53 => ⟨S64x1024, .i32⟩
  | 54 => ⟨S64x1024, .i32⟩
  | 55 => ⟨S64x1024, .i32⟩
  | 56 => ⟨S65536, .i32⟩
  | 57 => ⟨S_, .i32⟩
  | 58 => ⟨S64x1024, .i32⟩
  | 59 => ⟨S64x1024, .i1⟩
  | 60 => ⟨S64x1024, .f32⟩
  | 61 => ⟨S65536, .f32⟩
  | 62 => ⟨S_, .f32⟩
  | 63 => ⟨S3136, .f32⟩
  | 64 => ⟨S_, .i32⟩
  | 65 => ⟨S65536, .i32⟩
  | 66 => ⟨S65536, .i1⟩
  | 67 => ⟨S_, .i32⟩
  | 68 => ⟨S65536, .i32⟩
  | 69 => ⟨S65536, .i32⟩
  | 70 => ⟨S65536, .i32⟩
  | 71 => ⟨S65536x1, .i32⟩
  | 72 => ⟨S3136, .f32⟩
  | 73 => ⟨S64x49, .f32⟩
  | 74 => ⟨S_, .f32⟩
  | 75 => ⟨S64x49, .f32⟩
  | 76 => ⟨S64x49, .f32⟩
  | 77 => ⟨S_, .f32⟩
  | 78 => ⟨S64, .f32⟩
  | 79 => ⟨S64x1, .f32⟩
  | 80 => ⟨S64x49, .f32⟩
  | 81 => ⟨S64x49, .f32⟩
  | 82 => ⟨S49, .f32⟩
  | 83 => ⟨S_, .f32⟩
  | 84 => ⟨S49, .f32⟩
  | 85 => ⟨S49, .f32⟩
  | 86 => ⟨S1x49, .f32⟩
  | 87 => ⟨S64x49, .f32⟩
  | 88 => ⟨S64x49, .f32⟩
  | 89 => ⟨S_, .f32⟩
  | 90 => ⟨S64, .f32⟩
  | 91 => ⟨S1x49, .f32⟩
  | 92 => ⟨S64x49, .f32⟩
  | 93 => ⟨S64x49, .f32⟩
  | 94 => ⟨S_, .f32⟩
  | 95 => ⟨S64, .f32⟩
  | 96 => ⟨S64, .f32⟩
  | 97 => ⟨S49, .f32⟩
  | 98 => ⟨S1x49, .f32⟩
  | 99 => ⟨S64x49, .f32⟩
  | 100 => ⟨S64x49, .f32⟩
  | 101 => ⟨S_, .f32⟩
  | 102 => ⟨S64, .f32⟩
  | 103 => ⟨S64, .f32⟩
  | 104 => ⟨S64, .f32⟩
  | 105 => ⟨S64x1024, .f32⟩
  | 106 => ⟨S_, .f32⟩
  | 107 => ⟨S64x1024, .f32⟩
  | 108 => ⟨S64x1024, .f32⟩
  | 109 => ⟨S_, .f32⟩
  | 110 => ⟨S64x1024, .f32⟩
  | 111 => ⟨S64x1024, .i1⟩
  | 112 => ⟨S64x1024, .f32⟩
  | 113 => ⟨S_, .f32⟩
  | 114 => ⟨S64, .f32⟩
  | 115 => ⟨S_, .f32⟩
  | 116 => ⟨S64, .f32⟩
  | 117 => ⟨S64, .f32⟩
  | 118 => ⟨S_, .i32⟩
  | 119 => ⟨S64x625, .i32⟩
  | 120 => ⟨S64, .i32⟩
  | 121 => ⟨S64x1, .i32⟩
  | 122 => ⟨S_, .i32⟩
  | 123 => ⟨S64x1, .i32⟩
  | 124 => ⟨S64x1, .i32⟩
  | 125 => ⟨S_, .i32⟩
  | 126 => ⟨S64x625, .i32⟩
  | 127 => ⟨S64x625, .i32⟩
  | _ => ⟨S64x224x224x3, .f32⟩

abbrev hbmTy0_6 (i : Nat) : BufTy := match i % 128 with
  | 0 => ⟨S64x625, .i32⟩
  | 1 => ⟨S64x625, .i32⟩
  | 2 => ⟨S40000, .i32⟩
  | 3 => ⟨S_, .i32⟩
  | 4 => ⟨S64x625, .i32⟩
  | 5 => ⟨S64x625, .i1⟩
  | 6 => ⟨S64x625, .f32⟩
  | 7 => ⟨S40000, .f32⟩
  | 8 => ⟨S_, .f32⟩
  | 9 => ⟨S5184, .f32⟩
  | 10 => ⟨S_, .i32⟩
  | 11 => ⟨S40000, .i32⟩
  | 12 => ⟨S40000, .i1⟩
  | 13 => ⟨S_, .i32⟩
  | 14 => ⟨S40000, .i32⟩
  | 15 => ⟨S40000, .i32⟩
  | 16 => ⟨S40000, .i32⟩
  | 17 => ⟨S40000x1, .i32⟩
  | 18 => ⟨S5184, .f32⟩
  | 19 => ⟨S64x81, .f32⟩
  | 20 => ⟨S_, .f32⟩
  | 21 => ⟨S64x81, .f32⟩
  | 22 => ⟨S64x81, .f32⟩
  | 23 => ⟨S_, .f32⟩
  | 24 => ⟨S64, .f32⟩
  | 25 => ⟨S64x1, .f32⟩
  | 26 => ⟨S64x81, .f32⟩
  | 27 => ⟨S64x81, .f32⟩
  | 28 => ⟨S81, .f32⟩
  | 29 => ⟨S_, .f32⟩
  | 30 => ⟨S81, .f32⟩
  | 31 => ⟨S81, .f32⟩
  | 32 => ⟨S1x81, .f32⟩
  | 33 => ⟨S64x81, .f32⟩
  | 34 => ⟨S64x81, .f32⟩
  | 35 => ⟨S_, .f32⟩
  | 36 => ⟨S64, .f32⟩
  | 37 => ⟨S1x81, .f32⟩
  | 38 => ⟨S64x81, .f32⟩
  | 39 => ⟨S64x81, .f32⟩
  | 40 => ⟨S_, .f32⟩
  | 41 => ⟨S64, .f32⟩
  | 42 => ⟨S64, .f32⟩
  | 43 => ⟨S81, .f32⟩
  | 44 => ⟨S1x81, .f32⟩
  | 45 => ⟨S64x81, .f32⟩
  | 46 => ⟨S64x81, .f32⟩
  | 47 => ⟨S_, .f32⟩
  | 48 => ⟨S64, .f32⟩
  | 49 => ⟨S64, .f32⟩
  | 50 => ⟨S64, .f32⟩
  | 51 => ⟨S64x625, .f32⟩
  | 52 => ⟨S_, .f32⟩
  | 53 => ⟨S64x625, .f32⟩
  | 54 => ⟨S64x625, .f32⟩
  | 55 => ⟨S_, .f32⟩
  | 56 => ⟨S64x625, .f32⟩
  | 57 => ⟨S64x625, .i1⟩
  | 58 => ⟨S64x625, .f32⟩
  | 59 => ⟨S_, .f32⟩
  | 60 => ⟨S64, .f32⟩
  | 61 => ⟨S_, .f32⟩
  | 62 => ⟨S64, .f32⟩
  | 63 => ⟨S64, .f32⟩
  | 64 => ⟨S_, .i32⟩
  | 65 => ⟨S64x441, .i32⟩
  | 66 => ⟨S64, .i32⟩
  | 67 => ⟨S64x1, .i32⟩
  | 68 => ⟨S_, .i32⟩
  | 69 => ⟨S64x1, .i32⟩
  | 70 => ⟨S64x1, .i32⟩
  | 71 => ⟨S_, .i32⟩
  | 72 => ⟨S64x441, .i32⟩
  | 73 => ⟨S64x441, .i32⟩
  | 74 => ⟨S64x441, .i32⟩
  | 75 => ⟨S64x441, .i32⟩
  | 76 => ⟨S28224, .i32⟩
  | 77 => ⟨S_, .i32⟩
  | 78 => ⟨S64x441, .i32⟩
  | 79 => ⟨S64x441, .i1⟩
  | 80 => ⟨S64x441, .f32⟩
  | 81 => ⟨S28224, .f32⟩
  | 82 => ⟨S_, .f32⟩
  | 83 => ⟨S7744, .f32⟩
  | 84 => ⟨S_, .i32⟩
  | 85 => ⟨S28224, .i32⟩
  | 86 => ⟨S28224, .i1⟩
  | 87 => ⟨S_, .i32⟩
  | 88 => ⟨S28224, .i32⟩
  | 89 => ⟨S28224, .i32⟩
  | 90 => ⟨S28224, .i32⟩
  | 91 => ⟨S28224x1, .i32⟩
  | 92 => ⟨S7744, .f32⟩
  | 93 => ⟨S64x121, .f32⟩
  | 94 => ⟨S_, .f32⟩
  | 95 => ⟨S64x121, .f32⟩
  | 96 => ⟨S64x121, .f32⟩
  | 97 => ⟨S_, .f32⟩
  | 98 => ⟨S64, .f32⟩
  | 99 => ⟨S64x1, .f32⟩
  | 100 => ⟨S64x121, .f32⟩
  | 101 => ⟨S64x121, .f32⟩
  | 102 => ⟨S121, .f32⟩
  | 103 => ⟨S_, .f32⟩
  | 104 => ⟨S121, .f32⟩
  | 105 => ⟨S121, .f32⟩
  | 106 => ⟨S1x121, .f32⟩
  | 107 => ⟨S64x121, .f32⟩
  | 108 => ⟨S64x121, .f32⟩
  | 109 => ⟨S_, .f32⟩
  | 110 => ⟨S64, .f32⟩
  | 111 => ⟨S1x121, .f32⟩
  | 112 => ⟨S64x121, .f32⟩
  | 113 => ⟨S64x121, .f32⟩
  | 114 => ⟨S_, .f32⟩
  | 115 => ⟨S64, .f32⟩
  | 116 => ⟨S64, .f32⟩
  | 117 => ⟨S121, .f32⟩
  | 118 => ⟨S1x121, .f32⟩
  | 119 => ⟨S64x121, .f32⟩
  | 120 => ⟨S64x121, .f32⟩
  | 121 => ⟨S_, .f32⟩
  | 122 => ⟨S64, .f32⟩
  | 123 => ⟨S64, .f32⟩
  | 124 => ⟨S64, .f32⟩
  | 125 => ⟨S64x441, .f32⟩
  | 126 => ⟨S_, .f32⟩
  | 127 => ⟨S64x441, .f32⟩
  | _ => ⟨S64x224x224x3, .f32⟩

abbrev hbmTy0_7 (i : Nat) : BufTy := match i % 128 with
  | 0 => ⟨S64x441, .f32⟩
  | 1 => ⟨S_, .f32⟩
  | 2 => ⟨S64x441, .f32⟩
  | 3 => ⟨S64x441, .i1⟩
  | 4 => ⟨S64x441, .f32⟩
  | 5 => ⟨S_, .f32⟩
  | 6 => ⟨S64, .f32⟩
  | 7 => ⟨S_, .f32⟩
  | 8 => ⟨S64, .f32⟩
  | 9 => ⟨S64, .f32⟩
  | 10 => ⟨S_, .i32⟩
  | 11 => ⟨S64x5625, .i32⟩
  | 12 => ⟨S64, .i32⟩
  | 13 => ⟨S64x1, .i32⟩
  | 14 => ⟨S_, .i32⟩
  | 15 => ⟨S64x1, .i32⟩
  | 16 => ⟨S64x1, .i32⟩
  | 17 => ⟨S_, .i32⟩
  | 18 => ⟨S64x5625, .i32⟩
  | 19 => ⟨S64x5625, .i32⟩
  | 20 => ⟨S64x5625, .i32⟩
  | 21 => ⟨S64x5625, .i32⟩
  | 22 => ⟨S360000, .i32⟩
  | 23 => ⟨S_, .i32⟩
  | 24 => ⟨S64x5625, .i32⟩
  | 25 => ⟨S64x5625, .i1⟩
  | 26 => ⟨S64x5625, .f32⟩
  | 27 => ⟨S360000, .f32⟩
  | 28 => ⟨S_, .f32⟩
  | 29 => ⟨S576, .f32⟩
  | 30 => ⟨S_, .i32⟩
  | 31 => ⟨S360000, .i32⟩
  | 32 => ⟨S360000, .i1⟩
  | 33 => ⟨S_, .i32⟩
  | 34 => ⟨S360000, .i32⟩
  | 35 => ⟨S360000, .i32⟩
  | 36 => ⟨S360000, .i32⟩
  | 37 => ⟨S360000x1, .i32⟩
  | 38 => ⟨S576, .f32⟩
  | 39 => ⟨S64x9, .f32⟩
  | 40 => ⟨S_, .f32⟩
  | 41 => ⟨S64x9, .f32⟩
  | 42 => ⟨S64x9, .f32⟩
  | 43 => ⟨S_, .f32⟩
  | 44 => ⟨S64, .f32⟩
  | 45 => ⟨S64x1, .f32⟩
  | 46 => ⟨S64x9, .f32⟩
  | 47 => ⟨S64x9, .f32⟩
  | 48 => ⟨S9, .f32⟩
  | 49 => ⟨S_, .f32⟩
  | 50 => ⟨S9, .f32⟩
  | 51 => ⟨S9, .f32⟩
  | 52 => ⟨S1x9, .f32⟩
  | 53 => ⟨S64x9, .f32⟩
  | 54 => ⟨S64x9, .f32⟩
  | 55 => ⟨S_, .f32⟩
  | 56 => ⟨S64, .f32⟩
  | 57 => ⟨S1x9, .f32⟩
  | 58 => ⟨S64x9, .f32⟩
  | 59 => ⟨S64x9, .f32⟩
  | 60 => ⟨S_, .f32⟩
  | 61 => ⟨S64, .f32⟩
  | 62 => ⟨S64, .f32⟩
  | 63 => ⟨S9, .f32⟩
  | 64 => ⟨S1x9, .f32⟩
  | 65 => ⟨S64x9, .f32⟩
  | 66 => ⟨S64x9, .f32⟩
  | 67 => ⟨S_, .f32⟩
  | 68 => ⟨S64, .f32⟩
  | 69 => ⟨S64, .f32⟩
  | 70 => ⟨S64, .f32⟩
  | 71 => ⟨S64x5625, .f32⟩
  | 72 => ⟨S_, .f32⟩
  | 73 => ⟨S64x5625, .f32⟩
  | 74 => ⟨S64x5625, .f32⟩
  | 75 => ⟨S_, .f32⟩
  | 76 => ⟨S64x5625, .f32⟩
  | 77 => ⟨S64x5625, .i1⟩
  | 78 => ⟨S64x5625, .f32⟩
  | 79 => ⟨S_, .f32⟩
  | 80 => ⟨S64, .f32⟩
  | 81 => ⟨S_, .f32⟩
  | 82 => ⟨S64, .f32⟩
  | 83 => ⟨S64, .f32⟩
  | 84 => ⟨S_, .i32⟩
  | 85 => ⟨S64x2025, .i32⟩
  | 86 => ⟨S64, .i32⟩
  | 87 => ⟨S64x1, .i32⟩
  | 88 => ⟨S_, .i32⟩
  | 89 => ⟨S64x1, .i32⟩
  | 90 => ⟨S64x1, .i32⟩
  | 91 => ⟨S_, .i32⟩
  | 92 => ⟨S64x2025, .i32⟩
  | 93 => ⟨S64x2025, .i32⟩
  | 94 => ⟨S64x2025, .i32⟩
  | 95 => ⟨S64x2025, .i32⟩
  | 96 => ⟨S129600, .i32⟩
  | 97 => ⟨S_, .i32⟩
  | 98 => ⟨S64x2025, .i32⟩
  | 99 => ⟨S64x2025, .i1⟩
  | 100 => ⟨S64x2025, .f32⟩
  | 101 => ⟨S129600, .f32⟩
  | 102 => ⟨S_, .f32⟩
  | 103 => ⟨S1600, .f32⟩
  | 104 => ⟨S_, .i32⟩
  | 105 => ⟨S129600, .i32⟩
  | 106 => ⟨S129600, .i1⟩
  | 107 => ⟨S_, .i32⟩
  | 108 => ⟨S129600, .i32⟩
  | 109 => ⟨S129600, .i32⟩
  | 110 => ⟨S129600, .i32⟩
  | 111 => ⟨S129600x1, .i32⟩
  | 112 => ⟨S1600, .f32⟩
  | 113 => ⟨S64x25, .f32⟩
  | 114 => ⟨S_, .f32⟩
  | 115 => ⟨S64x25, .f32⟩
  | 116 => ⟨S64x25, .f32⟩
  | 117 => ⟨S_, .f32⟩
  | 118 => ⟨S64, .f32⟩
  | 119 => ⟨S64x1, .f32⟩
  | 120 => ⟨S64x25, .f32⟩
  | 121 => ⟨S64x25, .f32⟩
  | 122 => ⟨S25, .f32⟩
  | 123 => ⟨S_, .f32⟩
  | 124 => ⟨S25, .f32⟩
  | 125 => ⟨S25, .f32⟩
  | 126 => ⟨S1x25, .f32⟩
  | 127 => ⟨S64x25, .f32⟩
  | _ => ⟨S64x224x224x3, .f32⟩

abbrev hbmTy0_8 (i : Nat) : BufTy := match i % 128 with
  | 0 => ⟨S64x25, .f32⟩
  | 1 => ⟨S_, .f32⟩
  | 2 => ⟨S64, .f32⟩
  | 3 => ⟨S1x25, .f32⟩
  | 4 => ⟨S64x25, .f32⟩
  | 5 => ⟨S64x25, .f32⟩
  | 6 => ⟨S_, .f32⟩
  | 7 => ⟨S64, .f32⟩
  | 8 => ⟨S64, .f32⟩
  | 9 => ⟨S25, .f32⟩
  | 10 => ⟨S1x25, .f32⟩
  | 11 => ⟨S64x25, .f32⟩
  | 12 => ⟨S64x25, .f32⟩
  | 13 => ⟨S_, .f32⟩
  | 14 => ⟨S64, .f32⟩
  | 15 => ⟨S64, .f32⟩
  | 16 => ⟨S64, .f32⟩
  | 17 => ⟨S64x2025, .f32⟩
  | 18 => ⟨S_, .f32⟩
  | 19 => ⟨S64x2025, .f32⟩
  | 20 => ⟨S64x2025, .f32⟩
  | 21 => ⟨S_, .f32⟩
  | 22 => ⟨S64x2025, .f32⟩
  | 23 => ⟨S64x2025, .i1⟩
  | 24 => ⟨S64x2025, .f32⟩
  | 25 => ⟨S_, .f32⟩
  | 26 => ⟨S64, .f32⟩
  | 27 => ⟨S_, .f32⟩
  | 28 => ⟨S64, .f32⟩
  | 29 => ⟨S64, .f32⟩
  | 30 => ⟨S_, .i32⟩
  | 31 => ⟨S64x1024, .i32⟩
  | 32 => ⟨S64, .i32⟩
  | 33 => ⟨S64x1, .i32⟩
  | 34 => ⟨S_, .i32⟩
  | 35 => ⟨S64x1, .i32⟩
  | 36 => ⟨S64x1, .i32⟩
  | 37 => ⟨S_, .i32⟩
  | 38 => ⟨S64x1024, .i32⟩
  | 39 => ⟨S64x1024, .i32⟩
  | 40 => ⟨S64x1024, .i32⟩
  | 41 => ⟨S64x1024, .i32⟩
  | 42 => ⟨S65536, .i32⟩
  | 43 => ⟨S_, .i32⟩
  | 44 => ⟨S64x1024, .i32⟩
  | 45 => ⟨S64x1024, .i1⟩
  | 46 => ⟨S64x1024, .f32⟩
  | 47 => ⟨S65536, .f32⟩
  | 48 => ⟨S_, .f32⟩
  | 49 => ⟨S3136, .f32⟩
  | 50 => ⟨S_, .i32⟩
  | 51 => ⟨S65536, .i32⟩
  | 52 => ⟨S65536, .i1⟩
  | 53 => ⟨S_, .i32⟩
  | 54 => ⟨S65536, .i32⟩
  | 55 => ⟨S65536, .i32⟩
  | 56 => ⟨S65536, .i32⟩
  | 57 => ⟨S65536x1, .i32⟩
  | 58 => ⟨S3136, .f32⟩
  | 59 => ⟨S64x49, .f32⟩
  | 60 => ⟨S_, .f32⟩
  | 61 => ⟨S64x49, .f32⟩
  | 62 => ⟨S64x49, .f32⟩
  | 63 => ⟨S_, .f32⟩
  | 64 => ⟨S64, .f32⟩
  | 65 => ⟨S64x1, .f32⟩
  | 66 => ⟨S64x49, .f32⟩
  | 67 => ⟨S64x49, .f32⟩
  | 68 => ⟨S49, .f32⟩
  | 69 => ⟨S_, .f32⟩
  | 70 => ⟨S49, .f32⟩
  | 71 => ⟨S49, .f32⟩
  | 72 => ⟨S1x49, .f32⟩
  | 73 => ⟨S64x49, .f32⟩
  | 74 => ⟨S64x49, .f32⟩
  | 75 => ⟨S_, .f32⟩
  | 76 => ⟨S64, .f32⟩
  | 77 => ⟨S1x49, .f32⟩
  | 78 => ⟨S64x49, .f32⟩
  | 79 => ⟨S64x49, .f32⟩
  | 80 => ⟨S_, .f32⟩
  | 81 => ⟨S64, .f32⟩
  | 82 => ⟨S64, .f32⟩
  | 83 => ⟨S49, .f32⟩
  | 84 => ⟨S1x49, .f32⟩
  | 85 => ⟨S64x49, .f32⟩
  | 86 => ⟨S64x49, .f32⟩
  | 87 => ⟨S_, .f32⟩
  | 88 => ⟨S64, .f32⟩
  | 89 => ⟨S64, .f32⟩
  | 90 => ⟨S64, .f32⟩
  | 91 => ⟨S64x1024, .f32⟩
  | 92 => ⟨S_, .f32⟩
  | 93 => ⟨S64x1024, .f32⟩
  | 94 => ⟨S64x1024, .f32⟩
  | 95 => ⟨S_, .f32⟩
  | 96 => ⟨S64x1024, .f32⟩
  | 97 => ⟨S64x1024, .i1⟩
  | 98 => ⟨S64x1024, .f32⟩
  | 99 => ⟨S_, .f32⟩
  | 100 => ⟨S64, .f32⟩
  | 101 => ⟨S_, .f32⟩
  | 102 => ⟨S64, .f32⟩
  | 103 => ⟨S64, .f32⟩
  | 104 => ⟨S_, .i32⟩
  | 105 => ⟨S64x625, .i32⟩
  | 106 => ⟨S64, .i32⟩
  | 107 => ⟨S64x1, .i32⟩
  | 108 => ⟨S_, .i32⟩
  | 109 => ⟨S64x1, .i32⟩
  | 110 => ⟨S64x1, .i32⟩
  | 111 => ⟨S_, .i32⟩
  | 112 => ⟨S64x625, .i32⟩
  | 113 => ⟨S64x625, .i32⟩
  | 114 => ⟨S64x625, .i32⟩
  | 115 => ⟨S64x625, .i32⟩
  | 116 => ⟨S40000, .i32⟩
  | 117 => ⟨S_, .i32⟩
  | 118 => ⟨S64x625, .i32⟩
  | 119 => ⟨S64x625, .i1⟩
  | 120 => ⟨S64x625, .f32⟩
  | 121 => ⟨S40000, .f32⟩
  | 122 => ⟨S_, .f32⟩
  | 123 => ⟨S5184, .f32⟩
  | 124 => ⟨S_, .i32⟩
  | 125 => ⟨S40000, .i32⟩
  | 126 => ⟨S40000, .i1⟩
  | 127 => ⟨S_, .i32⟩
  | _ => ⟨S64x224x224x3, .f32⟩

abbrev hbmTy0_9 (i : Nat) : BufTy := match i % 128 with
  | 0 => ⟨S40000, .i32⟩
  | 1 => ⟨S40000, .i32⟩
  | 2 => ⟨S40000, .i32⟩
  | 3 => ⟨S40000x1, .i32⟩
  | 4 => ⟨S5184, .f32⟩
  | 5 => ⟨S64x81, .f32⟩
  | 6 => ⟨S_, .f32⟩
  | 7 => ⟨S64x81, .f32⟩
  | 8 => ⟨S64x81, .f32⟩
  | 9 => ⟨S_, .f32⟩
  | 10 => ⟨S64, .f32⟩
  | 11 => ⟨S64x1, .f32⟩
  | 12 => ⟨S64x81, .f32⟩
  | 13 => ⟨S64x81, .f32⟩
  | 14 => ⟨S81, .f32⟩
  | 15 => ⟨S_, .f32⟩
  | 16 => ⟨S81, .f32⟩
  | 17 => ⟨S81, .f32⟩
  | 18 => ⟨S1x81, .f32⟩
  | 19 => ⟨S64x81, .f32⟩
  | 20 => ⟨S64x81, .f32⟩
  | 21 => ⟨S_, .f32⟩
  | 22 => ⟨S64, .f32⟩
  | 23 => ⟨S1x81, .f32⟩
  | 24 => ⟨S64x81, .f32⟩
  | 25 => ⟨S64x81, .f32⟩
  | 26 => ⟨S_, .f32⟩
  | 27 => ⟨S64, .f32⟩
  | 28 => ⟨S64, .f32⟩
  | 29 => ⟨S81, .f32⟩
  | 30 => ⟨S1x81, .f32⟩
  | 31 => ⟨S64x81, .f32⟩
  | 32 => ⟨S64x81, .f32⟩
  | 33 => ⟨S_, .f32⟩
  | 34 => ⟨S64, .f32⟩
  | 35 => ⟨S64, .f32⟩
  | 36 => ⟨S64, .f32⟩
  | 37 => ⟨S64x625, .f32⟩
  | 38 => ⟨S_, .f32⟩
  | 39 => ⟨S64x625, .f32⟩
  | 40 => ⟨S64x625, .f32⟩
  | 41 => ⟨S_, .f32⟩
  | 42 => ⟨S64x625, .f32⟩
  | 43 => ⟨S64x625, .i1⟩
  | 44 => ⟨S64x625, .f32⟩
  | 45 => ⟨S_, .f32⟩
  | 46 => ⟨S64, .f32⟩
  | 47 => ⟨S_, .f32⟩
  | 48 => ⟨S64, .f32⟩
  | 49 => ⟨S64, .f32⟩
  | 50 => ⟨S_, .i32⟩
  | 51 => ⟨S64x441, .i32⟩
  | 52 => ⟨S64, .i32⟩
  | 53 => ⟨S64x1, .i32⟩
  | 54 => ⟨S_, .i32⟩
  | 55 => ⟨S64x1, .i32⟩
  | 56 => ⟨S64x1, .i32⟩
  | 57 => ⟨S_, .i32⟩
  | 58 => ⟨S64x441, .i32⟩
  | 59 => ⟨S64x441, .i32⟩
  | 60 => ⟨S64x441, .i32⟩
  | 61 => ⟨S64x441, .i32⟩
  | 62 => ⟨S28224, .i32⟩
  | 63 => ⟨S_, .i32⟩
  | 64 => ⟨S64x441, .i32⟩
  | 65 => ⟨S64x441, .i1⟩
  | 66 => ⟨S64x441, .f32⟩
  | 67 => ⟨S28224, .f32⟩
  | 68 => ⟨S_, .f32⟩
  | 69 => ⟨S7744, .f32⟩
  | 70 => ⟨S_, .i32⟩
  | 71 => ⟨S28224, .i32⟩
  | 72 => ⟨S28224, .i1⟩
  | 73 => ⟨S_, .i32⟩
  | 74 => ⟨S28224, .i32⟩
  | 75 => ⟨S28224, .i32⟩
  | 76 => ⟨S28224, .i32⟩
  | 77 => ⟨S28224x1, .i32⟩
  | 78 => ⟨S7744, .f32⟩
  | 79 => ⟨S64x121, .f32⟩
  | 80 => ⟨S_, .f32⟩
  | 81 => ⟨S64x121, .f32⟩
  | 82 => ⟨S64x121, .f32⟩
  | 83 => ⟨S_, .f32⟩
  | 84 => ⟨S64, .f32⟩
  | 85 => ⟨S64x1, .f32⟩
  | 86 => ⟨S64x121, .f32⟩
  | 87 => ⟨S64x121, .f32⟩
  | 88 => ⟨S121, .f32⟩
  | 89 => ⟨S_, .f32⟩
  | 90 => ⟨S121, .f32⟩
  | 91 => ⟨S121, .f32⟩
  | 92 => ⟨S1x121, .f32⟩
  | 93 => ⟨S64x121, .f32⟩
  | 94 => ⟨S64x121, .f32⟩
  | 95 => ⟨S_, .f32⟩
  | 96 => ⟨S64, .f32⟩
  | 97 => ⟨S1x121, .f32⟩
  | 98 => ⟨S64x121, .f32⟩
  | 99 => ⟨S64x121, .f32⟩
  | 100 => ⟨S_, .f32⟩
  | 101 => ⟨S64, .f32⟩
  | 102 => ⟨S64, .f32⟩
  | 103 => ⟨S121, .f32⟩
  | 104 => ⟨S1x121, .f32⟩
  | 105 => ⟨S64x121, .f32⟩
  | 106 => ⟨S64x121, .f32⟩
  | 107 => ⟨S_, .f32⟩
  | 108 => ⟨S64, .f32⟩
  | 109 => ⟨S64, .f32⟩
  | 110 => ⟨S64, .f32⟩
  | 111 => ⟨S64x441, .f32⟩
  | 112 => ⟨S_, .f32⟩
  | 113 => ⟨S64x441, .f32⟩
  | 114 => ⟨S64x441, .f32⟩
  | 115 => ⟨S_, .f32⟩
  | 116 => ⟨S64x441, .f32⟩
  | 117 => ⟨S64x441, .i1⟩
  | 118 => ⟨S64x441, .f32⟩
  | 119 => ⟨S_, .f32⟩
  | 120 => ⟨S64, .f32⟩
  | 121 => ⟨S_, .f32⟩
  | 122 => ⟨S64, .f32⟩
  | 123 => ⟨S64, .f32⟩
  | 124 => ⟨S64x1, .f32⟩
  | 125 => ⟨S64x1, .f32⟩
  | 126 => ⟨S64x1, .f32⟩
  | 127 => ⟨S64x1, .f32⟩
  | _ => ⟨S64x224x224x3, .f32⟩

abbrev hbmTy0_10 (i : Nat) : BufTy := match i % 128 with
  | 0 => ⟨S64x1, .f32⟩
  | 1 => ⟨S64x1, .f32⟩
  | 2 => ⟨S64x1, .f32⟩
  | 3 => ⟨S64x1, .f32⟩
  | 4 => ⟨S64x1, .f32⟩
  | 5 => ⟨S64x1, .f32⟩
  | 6 => ⟨S64x1, .f32⟩
  | 7 => ⟨S64x1, .f32⟩
  | 8 => ⟨S64x1, .f32⟩
  | 9 => ⟨S64x1, .f32⟩
  | 10 => ⟨S64x1, .f32⟩
  | 11 => ⟨S64x1, .f32⟩
  | 12 => ⟨S64x1, .f32⟩
  | 13 => ⟨S64x1, .f32⟩
  | 14 => ⟨S64x1, .f32⟩
  | 15 => ⟨S64x1, .f32⟩
  | 16 => ⟨S64x1, .f32⟩
  | 17 => ⟨S64x1, .f32⟩
  | 18 => ⟨S64x1, .f32⟩
  | 19 => ⟨S64x1, .f32⟩
  | 20 => ⟨S64x1, .f32⟩
  | 21 => ⟨S64x1, .f32⟩
  | 22 => ⟨S64x1, .f32⟩
  | 23 => ⟨S64x1, .f32⟩
  | 24 => ⟨S64x1, .f32⟩
  | 25 => ⟨S64x1, .f32⟩
  | 26 => ⟨S64x1, .f32⟩
  | 27 => ⟨S64x1, .f32⟩
  | 28 => ⟨S64x1, .f32⟩
  | 29 => ⟨S64x1, .f32⟩
  | 30 => ⟨S64x1, .f32⟩
  | 31 => ⟨S64x1, .f32⟩
  | 32 => ⟨S64x1, .f32⟩
  | 33 => ⟨S64x1, .f32⟩
  | 34 => ⟨S64x1, .f32⟩
  | 35 => ⟨S64x1, .f32⟩
  | 36 => ⟨S64x1, .f32⟩
  | 37 => ⟨S64x1, .f32⟩
  | 38 => ⟨S64x1, .f32⟩
  | 39 => ⟨S64x1, .f32⟩
  | 40 => ⟨S64x1, .f32⟩
  | 41 => ⟨S64x16, .f32⟩
  | 42 => ⟨S64x16, .f32⟩
  | 43 => ⟨S64x13, .f32⟩
  | 44 => ⟨S64x45, .f32⟩
  | 45 => ⟨S8x8x45, .f32⟩
  | _ => ⟨S64x224x224x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S64x224x224x3, .f32⟩

abbrev bufTy : (tb : Table) → Fin (tcTables nBuf tb) → BufTy
  | .hbm, ⟨i, _⟩ => hbmTy i
  | _, _ => ⟨S64x224x224x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_5 : Ref sig .tc := ⟨.hbm, 34, rfl⟩
abbrev main_call1_v0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_8 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_12 : Ref sig .tc := ⟨.hbm, 67, rfl⟩
abbrev main_call2_v0 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_13 : Ref sig .tc := ⟨.hbm, 79, rfl⟩
abbrev main_v60 : Ref sig .tc := ⟨.hbm, 80, rfl⟩
abbrev main_cst_14 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_15 : Ref sig .tc := ⟨.hbm, 86, rfl⟩
abbrev main_v65 : Ref sig .tc := ⟨.hbm, 87, rfl⟩
abbrev main_v66 : Ref sig .tc := ⟨.hbm, 88, rfl⟩
abbrev main_cst_16 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_17 : Ref sig .tc := ⟨.hbm, 94, rfl⟩
abbrev main_v71 : Ref sig .tc := ⟨.hbm, 95, rfl⟩
abbrev main_cst_18 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c_19 : Ref sig .tc := ⟨.hbm, 100, rfl⟩
abbrev main_call3_v0 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_20 : Ref sig .tc := ⟨.hbm, 112, rfl⟩
abbrev main_v85 : Ref sig .tc := ⟨.hbm, 113, rfl⟩
abbrev main_cst_21 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_22 : Ref sig .tc := ⟨.hbm, 119, rfl⟩
abbrev main_v90 : Ref sig .tc := ⟨.hbm, 120, rfl⟩
abbrev main_v91 : Ref sig .tc := ⟨.hbm, 121, rfl⟩
abbrev main_cst_23 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_24 : Ref sig .tc := ⟨.hbm, 127, rfl⟩
abbrev main_v96 : Ref sig .tc := ⟨.hbm, 128, rfl⟩
abbrev main_cst_25 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_c_26 : Ref sig .tc := ⟨.hbm, 133, rfl⟩
abbrev main_call4_v0 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_27 : Ref sig .tc := ⟨.hbm, 145, rfl⟩
abbrev main_v110 : Ref sig .tc := ⟨.hbm, 146, rfl⟩
abbrev main_cst_28 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_cst_29 : Ref sig .tc := ⟨.hbm, 152, rfl⟩
abbrev main_v115 : Ref sig .tc := ⟨.hbm, 153, rfl⟩
abbrev main_v116 : Ref sig .tc := ⟨.hbm, 154, rfl⟩
abbrev main_cst_30 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_cst_31 : Ref sig .tc := ⟨.hbm, 160, rfl⟩
abbrev main_v121 : Ref sig .tc := ⟨.hbm, 161, rfl⟩
abbrev main_cst_32 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_c_33 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_c_34 : Ref sig .tc := ⟨.hbm, 170, rfl⟩
abbrev main_v128 : Ref sig .tc := ⟨.hbm, 171, rfl⟩
abbrev main_v129 : Ref sig .tc := ⟨.hbm, 172, rfl⟩
abbrev main_c_35 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_c_36 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_cst_37 : Ref sig .tc := ⟨.hbm, 184, rfl⟩
abbrev main_v139 : Ref sig .tc := ⟨.hbm, 185, rfl⟩
abbrev main_c_38 : Ref sig .tc := ⟨.hbm, 186, rfl⟩
abbrev main_v140 : Ref sig .tc := ⟨.hbm, 187, rfl⟩
abbrev main_v141 : Ref sig .tc := ⟨.hbm, 188, rfl⟩
abbrev main_c_39 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_cst_40 : Ref sig .tc := ⟨.hbm, 196, rfl⟩
abbrev main_v148 : Ref sig .tc := ⟨.hbm, 197, rfl⟩
abbrev main_v149 : Ref sig .tc := ⟨.hbm, 198, rfl⟩
abbrev main_cst_41 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_cst_42 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_cst_43 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_cst_44 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_cst_45 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_cst_46 : Ref sig .tc := ⟨.hbm, 228, rfl⟩
abbrev main_v174 : Ref sig .tc := ⟨.hbm, 229, rfl⟩
abbrev main_v175 : Ref sig .tc := ⟨.hbm, 230, rfl⟩
abbrev main_cst_47 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_cst_48 : Ref sig .tc := ⟨.hbm, 235, rfl⟩
abbrev main_v179 : Ref sig .tc := ⟨.hbm, 236, rfl⟩
abbrev main_cst_49 : Ref sig .tc := ⟨.hbm, 237, rfl⟩
abbrev main_v180 : Ref sig .tc := ⟨.hbm, 238, rfl⟩
abbrev main_v181 : Ref sig .tc := ⟨.hbm, 239, rfl⟩
abbrev main_c_50 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_c_51 : Ref sig .tc := ⟨.hbm, 244, rfl⟩
abbrev main_v185 : Ref sig .tc := ⟨.hbm, 245, rfl⟩
abbrev main_v186 : Ref sig .tc := ⟨.hbm, 246, rfl⟩
abbrev main_c_52 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_c_53 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_cst_54 : Ref sig .tc := ⟨.hbm, 258, rfl⟩
abbrev main_v196 : Ref sig .tc := ⟨.hbm, 259, rfl⟩
abbrev main_c_55 : Ref sig .tc := ⟨.hbm, 260, rfl⟩
abbrev main_v197 : Ref sig .tc := ⟨.hbm, 261, rfl⟩
abbrev main_v198 : Ref sig .tc := ⟨.hbm, 262, rfl⟩
abbrev main_c_56 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_cst_57 : Ref sig .tc := ⟨.hbm, 270, rfl⟩
abbrev main_v205 : Ref sig .tc := ⟨.hbm, 271, rfl⟩
abbrev main_v206 : Ref sig .tc := ⟨.hbm, 272, rfl⟩
abbrev main_cst_58 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_cst_59 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_cst_60 : Ref sig .tc := ⟨.hbm, 285, rfl⟩
abbrev main_v217 : Ref sig .tc := ⟨.hbm, 286, rfl⟩
abbrev main_v218 : Ref sig .tc := ⟨.hbm, 287, rfl⟩
abbrev main_v219 : Ref sig .tc := ⟨.hbm, 288, rfl⟩
abbrev main_v220 : Ref sig .tc := ⟨.hbm, 289, rfl⟩
abbrev main_cst_61 : Ref sig .tc := ⟨.hbm, 290, rfl⟩
abbrev main_v221 : Ref sig .tc := ⟨.hbm, 291, rfl⟩
abbrev main_v222 : Ref sig .tc := ⟨.hbm, 292, rfl⟩
abbrev main_v223 : Ref sig .tc := ⟨.hbm, 293, rfl⟩
abbrev main_v224 : Ref sig .tc := ⟨.hbm, 294, rfl⟩
abbrev main_v225 : Ref sig .tc := ⟨.hbm, 295, rfl⟩
abbrev main_v226 : Ref sig .tc := ⟨.hbm, 296, rfl⟩
abbrev main_cst_62 : Ref sig .tc := ⟨.hbm, 297, rfl⟩
abbrev main_v227 : Ref sig .tc := ⟨.hbm, 298, rfl⟩
abbrev main_v228 : Ref sig .tc := ⟨.hbm, 299, rfl⟩
abbrev main_v229 : Ref sig .tc := ⟨.hbm, 300, rfl⟩
abbrev main_v230 : Ref sig .tc := ⟨.hbm, 301, rfl⟩
abbrev main_cst_63 : Ref sig .tc := ⟨.hbm, 302, rfl⟩
abbrev main_v231 : Ref sig .tc := ⟨.hbm, 303, rfl⟩
abbrev main_v232 : Ref sig .tc := ⟨.hbm, 304, rfl⟩
abbrev main_cst_64 : Ref sig .tc := ⟨.hbm, 305, rfl⟩
abbrev main_v233 : Ref sig .tc := ⟨.hbm, 306, rfl⟩
abbrev main_v234 : Ref sig .tc := ⟨.hbm, 307, rfl⟩
abbrev main_v235 : Ref sig .tc := ⟨.hbm, 308, rfl⟩
abbrev main_cst_65 : Ref sig .tc := ⟨.hbm, 309, rfl⟩
abbrev main_v236 : Ref sig .tc := ⟨.hbm, 310, rfl⟩
abbrev main_cst_66 : Ref sig .tc := ⟨.hbm, 311, rfl⟩
abbrev main_v237 : Ref sig .tc := ⟨.hbm, 312, rfl⟩
abbrev main_v238 : Ref sig .tc := ⟨.hbm, 313, rfl⟩
abbrev main_c_67 : Ref sig .tc := ⟨.hbm, 314, rfl⟩
abbrev main_v239 : Ref sig .tc := ⟨.hbm, 315, rfl⟩
abbrev main_v240 : Ref sig .tc := ⟨.hbm, 316, rfl⟩
abbrev main_v241 : Ref sig .tc := ⟨.hbm, 317, rfl⟩
abbrev main_c_68 : Ref sig .tc := ⟨.hbm, 318, rfl⟩
abbrev main_v242 : Ref sig .tc := ⟨.hbm, 319, rfl⟩
abbrev main_v243 : Ref sig .tc := ⟨.hbm, 320, rfl⟩
abbrev main_c_69 : Ref sig .tc := ⟨.hbm, 321, rfl⟩
abbrev main_v244 : Ref sig .tc := ⟨.hbm, 322, rfl⟩
abbrev main_v245 : Ref sig .tc := ⟨.hbm, 323, rfl⟩
abbrev main_v246 : Ref sig .tc := ⟨.hbm, 324, rfl⟩
abbrev main_v247 : Ref sig .tc := ⟨.hbm, 325, rfl⟩
abbrev main_v248 : Ref sig .tc := ⟨.hbm, 326, rfl⟩
abbrev main_c_70 : Ref sig .tc := ⟨.hbm, 327, rfl⟩
abbrev main_v249 : Ref sig .tc := ⟨.hbm, 328, rfl⟩
abbrev main_v250 : Ref sig .tc := ⟨.hbm, 329, rfl⟩
abbrev main_v251 : Ref sig .tc := ⟨.hbm, 330, rfl⟩
abbrev main_v252 : Ref sig .tc := ⟨.hbm, 331, rfl⟩
abbrev main_cst_71 : Ref sig .tc := ⟨.hbm, 332, rfl⟩
abbrev main_v253 : Ref sig .tc := ⟨.hbm, 333, rfl⟩
abbrev main_c_72 : Ref sig .tc := ⟨.hbm, 334, rfl⟩
abbrev main_v254 : Ref sig .tc := ⟨.hbm, 335, rfl⟩
abbrev main_v255 : Ref sig .tc := ⟨.hbm, 336, rfl⟩
abbrev main_c_73 : Ref sig .tc := ⟨.hbm, 337, rfl⟩
abbrev main_v256 : Ref sig .tc := ⟨.hbm, 338, rfl⟩
abbrev main_v257 : Ref sig .tc := ⟨.hbm, 339, rfl⟩
abbrev main_v258 : Ref sig .tc := ⟨.hbm, 340, rfl⟩
abbrev main_v259 : Ref sig .tc := ⟨.hbm, 341, rfl⟩
abbrev main_v260 : Ref sig .tc := ⟨.hbm, 342, rfl⟩
abbrev main_v261 : Ref sig .tc := ⟨.hbm, 343, rfl⟩
abbrev main_cst_74 : Ref sig .tc := ⟨.hbm, 344, rfl⟩
abbrev main_v262 : Ref sig .tc := ⟨.hbm, 345, rfl⟩
abbrev main_v263 : Ref sig .tc := ⟨.hbm, 346, rfl⟩
abbrev main_cst_75 : Ref sig .tc := ⟨.hbm, 347, rfl⟩
abbrev main_v264 : Ref sig .tc := ⟨.hbm, 348, rfl⟩
abbrev main_v265 : Ref sig .tc := ⟨.hbm, 349, rfl⟩
abbrev main_v266 : Ref sig .tc := ⟨.hbm, 350, rfl⟩
abbrev main_v267 : Ref sig .tc := ⟨.hbm, 351, rfl⟩
abbrev main_v268 : Ref sig .tc := ⟨.hbm, 352, rfl⟩
abbrev main_cst_76 : Ref sig .tc := ⟨.hbm, 353, rfl⟩
abbrev main_v269 : Ref sig .tc := ⟨.hbm, 354, rfl⟩
abbrev main_v270 : Ref sig .tc := ⟨.hbm, 355, rfl⟩
abbrev main_v271 : Ref sig .tc := ⟨.hbm, 356, rfl⟩
abbrev main_v272 : Ref sig .tc := ⟨.hbm, 357, rfl⟩
abbrev main_v273 : Ref sig .tc := ⟨.hbm, 358, rfl⟩
abbrev main_cst_77 : Ref sig .tc := ⟨.hbm, 359, rfl⟩
abbrev main_v274 : Ref sig .tc := ⟨.hbm, 360, rfl⟩
abbrev main_v275 : Ref sig .tc := ⟨.hbm, 361, rfl⟩
abbrev main_v276 : Ref sig .tc := ⟨.hbm, 362, rfl⟩
abbrev main_v277 : Ref sig .tc := ⟨.hbm, 363, rfl⟩
abbrev main_cst_78 : Ref sig .tc := ⟨.hbm, 364, rfl⟩
abbrev main_v278 : Ref sig .tc := ⟨.hbm, 365, rfl⟩
abbrev main_v279 : Ref sig .tc := ⟨.hbm, 366, rfl⟩
abbrev main_v280 : Ref sig .tc := ⟨.hbm, 367, rfl⟩
abbrev main_v281 : Ref sig .tc := ⟨.hbm, 368, rfl⟩
abbrev main_v282 : Ref sig .tc := ⟨.hbm, 369, rfl⟩
abbrev main_v283 : Ref sig .tc := ⟨.hbm, 370, rfl⟩
abbrev main_cst_79 : Ref sig .tc := ⟨.hbm, 371, rfl⟩
abbrev main_v284 : Ref sig .tc := ⟨.hbm, 372, rfl⟩
abbrev main_v285 : Ref sig .tc := ⟨.hbm, 373, rfl⟩
abbrev main_v286 : Ref sig .tc := ⟨.hbm, 374, rfl⟩
abbrev main_v287 : Ref sig .tc := ⟨.hbm, 375, rfl⟩
abbrev main_cst_80 : Ref sig .tc := ⟨.hbm, 376, rfl⟩
abbrev main_v288 : Ref sig .tc := ⟨.hbm, 377, rfl⟩
abbrev main_v289 : Ref sig .tc := ⟨.hbm, 378, rfl⟩
abbrev main_cst_81 : Ref sig .tc := ⟨.hbm, 379, rfl⟩
abbrev main_v290 : Ref sig .tc := ⟨.hbm, 380, rfl⟩
abbrev main_v291 : Ref sig .tc := ⟨.hbm, 381, rfl⟩
abbrev main_v292 : Ref sig .tc := ⟨.hbm, 382, rfl⟩
abbrev main_cst_82 : Ref sig .tc := ⟨.hbm, 383, rfl⟩
abbrev main_v293 : Ref sig .tc := ⟨.hbm, 384, rfl⟩
abbrev main_cst_83 : Ref sig .tc := ⟨.hbm, 385, rfl⟩
abbrev main_v294 : Ref sig .tc := ⟨.hbm, 386, rfl⟩
abbrev main_v295 : Ref sig .tc := ⟨.hbm, 387, rfl⟩
abbrev main_c_84 : Ref sig .tc := ⟨.hbm, 388, rfl⟩
abbrev main_v296 : Ref sig .tc := ⟨.hbm, 389, rfl⟩
abbrev main_v297 : Ref sig .tc := ⟨.hbm, 390, rfl⟩
abbrev main_v298 : Ref sig .tc := ⟨.hbm, 391, rfl⟩
abbrev main_c_85 : Ref sig .tc := ⟨.hbm, 392, rfl⟩
abbrev main_v299 : Ref sig .tc := ⟨.hbm, 393, rfl⟩
abbrev main_v300 : Ref sig .tc := ⟨.hbm, 394, rfl⟩
abbrev main_c_86 : Ref sig .tc := ⟨.hbm, 395, rfl⟩
abbrev main_v301 : Ref sig .tc := ⟨.hbm, 396, rfl⟩
abbrev main_v302 : Ref sig .tc := ⟨.hbm, 397, rfl⟩
abbrev main_v303 : Ref sig .tc := ⟨.hbm, 398, rfl⟩
abbrev main_v304 : Ref sig .tc := ⟨.hbm, 399, rfl⟩
abbrev main_v305 : Ref sig .tc := ⟨.hbm, 400, rfl⟩
abbrev main_c_87 : Ref sig .tc := ⟨.hbm, 401, rfl⟩
abbrev main_v306 : Ref sig .tc := ⟨.hbm, 402, rfl⟩
abbrev main_v307 : Ref sig .tc := ⟨.hbm, 403, rfl⟩
abbrev main_v308 : Ref sig .tc := ⟨.hbm, 404, rfl⟩
abbrev main_v309 : Ref sig .tc := ⟨.hbm, 405, rfl⟩
abbrev main_cst_88 : Ref sig .tc := ⟨.hbm, 406, rfl⟩
abbrev main_v310 : Ref sig .tc := ⟨.hbm, 407, rfl⟩
abbrev main_c_89 : Ref sig .tc := ⟨.hbm, 408, rfl⟩
abbrev main_v311 : Ref sig .tc := ⟨.hbm, 409, rfl⟩
abbrev main_v312 : Ref sig .tc := ⟨.hbm, 410, rfl⟩
abbrev main_c_90 : Ref sig .tc := ⟨.hbm, 411, rfl⟩
abbrev main_v313 : Ref sig .tc := ⟨.hbm, 412, rfl⟩
abbrev main_v314 : Ref sig .tc := ⟨.hbm, 413, rfl⟩
abbrev main_v315 : Ref sig .tc := ⟨.hbm, 414, rfl⟩
abbrev main_v316 : Ref sig .tc := ⟨.hbm, 415, rfl⟩
abbrev main_v317 : Ref sig .tc := ⟨.hbm, 416, rfl⟩
abbrev main_v318 : Ref sig .tc := ⟨.hbm, 417, rfl⟩
abbrev main_cst_91 : Ref sig .tc := ⟨.hbm, 418, rfl⟩
abbrev main_v319 : Ref sig .tc := ⟨.hbm, 419, rfl⟩
abbrev main_v320 : Ref sig .tc := ⟨.hbm, 420, rfl⟩
abbrev main_cst_92 : Ref sig .tc := ⟨.hbm, 421, rfl⟩
abbrev main_v321 : Ref sig .tc := ⟨.hbm, 422, rfl⟩
abbrev main_v322 : Ref sig .tc := ⟨.hbm, 423, rfl⟩
abbrev main_v323 : Ref sig .tc := ⟨.hbm, 424, rfl⟩
abbrev main_v324 : Ref sig .tc := ⟨.hbm, 425, rfl⟩
abbrev main_v325 : Ref sig .tc := ⟨.hbm, 426, rfl⟩
abbrev main_cst_93 : Ref sig .tc := ⟨.hbm, 427, rfl⟩
abbrev main_v326 : Ref sig .tc := ⟨.hbm, 428, rfl⟩
abbrev main_v327 : Ref sig .tc := ⟨.hbm, 429, rfl⟩
abbrev main_v328 : Ref sig .tc := ⟨.hbm, 430, rfl⟩
abbrev main_v329 : Ref sig .tc := ⟨.hbm, 431, rfl⟩
abbrev main_v330 : Ref sig .tc := ⟨.hbm, 432, rfl⟩
abbrev main_cst_94 : Ref sig .tc := ⟨.hbm, 433, rfl⟩
abbrev main_v331 : Ref sig .tc := ⟨.hbm, 434, rfl⟩
abbrev main_v332 : Ref sig .tc := ⟨.hbm, 435, rfl⟩
abbrev main_v333 : Ref sig .tc := ⟨.hbm, 436, rfl⟩
abbrev main_v334 : Ref sig .tc := ⟨.hbm, 437, rfl⟩
abbrev main_cst_95 : Ref sig .tc := ⟨.hbm, 438, rfl⟩
abbrev main_v335 : Ref sig .tc := ⟨.hbm, 439, rfl⟩
abbrev main_v336 : Ref sig .tc := ⟨.hbm, 440, rfl⟩
abbrev main_v337 : Ref sig .tc := ⟨.hbm, 441, rfl⟩
abbrev main_v338 : Ref sig .tc := ⟨.hbm, 442, rfl⟩
abbrev main_v339 : Ref sig .tc := ⟨.hbm, 443, rfl⟩
abbrev main_v340 : Ref sig .tc := ⟨.hbm, 444, rfl⟩
abbrev main_cst_96 : Ref sig .tc := ⟨.hbm, 445, rfl⟩
abbrev main_v341 : Ref sig .tc := ⟨.hbm, 446, rfl⟩
abbrev main_v342 : Ref sig .tc := ⟨.hbm, 447, rfl⟩
abbrev main_v343 : Ref sig .tc := ⟨.hbm, 448, rfl⟩
abbrev main_v344 : Ref sig .tc := ⟨.hbm, 449, rfl⟩
abbrev main_cst_97 : Ref sig .tc := ⟨.hbm, 450, rfl⟩
abbrev main_v345 : Ref sig .tc := ⟨.hbm, 451, rfl⟩
abbrev main_v346 : Ref sig .tc := ⟨.hbm, 452, rfl⟩
abbrev main_cst_98 : Ref sig .tc := ⟨.hbm, 453, rfl⟩
abbrev main_v347 : Ref sig .tc := ⟨.hbm, 454, rfl⟩
abbrev main_v348 : Ref sig .tc := ⟨.hbm, 455, rfl⟩
abbrev main_v349 : Ref sig .tc := ⟨.hbm, 456, rfl⟩
abbrev main_cst_99 : Ref sig .tc := ⟨.hbm, 457, rfl⟩
abbrev main_v350 : Ref sig .tc := ⟨.hbm, 458, rfl⟩
abbrev main_cst_100 : Ref sig .tc := ⟨.hbm, 459, rfl⟩
abbrev main_v351 : Ref sig .tc := ⟨.hbm, 460, rfl⟩
abbrev main_v352 : Ref sig .tc := ⟨.hbm, 461, rfl⟩
abbrev main_c_101 : Ref sig .tc := ⟨.hbm, 462, rfl⟩
abbrev main_v353 : Ref sig .tc := ⟨.hbm, 463, rfl⟩
abbrev main_v354 : Ref sig .tc := ⟨.hbm, 464, rfl⟩
abbrev main_v355 : Ref sig .tc := ⟨.hbm, 465, rfl⟩
abbrev main_c_102 : Ref sig .tc := ⟨.hbm, 466, rfl⟩
abbrev main_v356 : Ref sig .tc := ⟨.hbm, 467, rfl⟩
abbrev main_v357 : Ref sig .tc := ⟨.hbm, 468, rfl⟩
abbrev main_c_103 : Ref sig .tc := ⟨.hbm, 469, rfl⟩
abbrev main_v358 : Ref sig .tc := ⟨.hbm, 470, rfl⟩
abbrev main_v359 : Ref sig .tc := ⟨.hbm, 471, rfl⟩
abbrev main_v360 : Ref sig .tc := ⟨.hbm, 472, rfl⟩
abbrev main_v361 : Ref sig .tc := ⟨.hbm, 473, rfl⟩
abbrev main_v362 : Ref sig .tc := ⟨.hbm, 474, rfl⟩
abbrev main_c_104 : Ref sig .tc := ⟨.hbm, 475, rfl⟩
abbrev main_v363 : Ref sig .tc := ⟨.hbm, 476, rfl⟩
abbrev main_v364 : Ref sig .tc := ⟨.hbm, 477, rfl⟩
abbrev main_v365 : Ref sig .tc := ⟨.hbm, 478, rfl⟩
abbrev main_v366 : Ref sig .tc := ⟨.hbm, 479, rfl⟩
abbrev main_cst_105 : Ref sig .tc := ⟨.hbm, 480, rfl⟩
abbrev main_v367 : Ref sig .tc := ⟨.hbm, 481, rfl⟩
abbrev main_c_106 : Ref sig .tc := ⟨.hbm, 482, rfl⟩
abbrev main_v368 : Ref sig .tc := ⟨.hbm, 483, rfl⟩
abbrev main_v369 : Ref sig .tc := ⟨.hbm, 484, rfl⟩
abbrev main_c_107 : Ref sig .tc := ⟨.hbm, 485, rfl⟩
abbrev main_v370 : Ref sig .tc := ⟨.hbm, 486, rfl⟩
abbrev main_v371 : Ref sig .tc := ⟨.hbm, 487, rfl⟩
abbrev main_v372 : Ref sig .tc := ⟨.hbm, 488, rfl⟩
abbrev main_v373 : Ref sig .tc := ⟨.hbm, 489, rfl⟩
abbrev main_v374 : Ref sig .tc := ⟨.hbm, 490, rfl⟩
abbrev main_v375 : Ref sig .tc := ⟨.hbm, 491, rfl⟩
abbrev main_cst_108 : Ref sig .tc := ⟨.hbm, 492, rfl⟩
abbrev main_v376 : Ref sig .tc := ⟨.hbm, 493, rfl⟩
abbrev main_v377 : Ref sig .tc := ⟨.hbm, 494, rfl⟩
abbrev main_cst_109 : Ref sig .tc := ⟨.hbm, 495, rfl⟩
abbrev main_v378 : Ref sig .tc := ⟨.hbm, 496, rfl⟩
abbrev main_v379 : Ref sig .tc := ⟨.hbm, 497, rfl⟩
abbrev main_v380 : Ref sig .tc := ⟨.hbm, 498, rfl⟩
abbrev main_v381 : Ref sig .tc := ⟨.hbm, 499, rfl⟩
abbrev main_v382 : Ref sig .tc := ⟨.hbm, 500, rfl⟩
abbrev main_cst_110 : Ref sig .tc := ⟨.hbm, 501, rfl⟩
abbrev main_v383 : Ref sig .tc := ⟨.hbm, 502, rfl⟩
abbrev main_v384 : Ref sig .tc := ⟨.hbm, 503, rfl⟩
abbrev main_v385 : Ref sig .tc := ⟨.hbm, 504, rfl⟩
abbrev main_v386 : Ref sig .tc := ⟨.hbm, 505, rfl⟩
abbrev main_v387 : Ref sig .tc := ⟨.hbm, 506, rfl⟩
abbrev main_cst_111 : Ref sig .tc := ⟨.hbm, 507, rfl⟩
abbrev main_v388 : Ref sig .tc := ⟨.hbm, 508, rfl⟩
abbrev main_v389 : Ref sig .tc := ⟨.hbm, 509, rfl⟩
abbrev main_v390 : Ref sig .tc := ⟨.hbm, 510, rfl⟩
abbrev main_v391 : Ref sig .tc := ⟨.hbm, 511, rfl⟩
abbrev main_cst_112 : Ref sig .tc := ⟨.hbm, 512, rfl⟩
abbrev main_v392 : Ref sig .tc := ⟨.hbm, 513, rfl⟩
abbrev main_v393 : Ref sig .tc := ⟨.hbm, 514, rfl⟩
abbrev main_v394 : Ref sig .tc := ⟨.hbm, 515, rfl⟩
abbrev main_v395 : Ref sig .tc := ⟨.hbm, 516, rfl⟩
abbrev main_v396 : Ref sig .tc := ⟨.hbm, 517, rfl⟩
abbrev main_v397 : Ref sig .tc := ⟨.hbm, 518, rfl⟩
abbrev main_cst_113 : Ref sig .tc := ⟨.hbm, 519, rfl⟩
abbrev main_v398 : Ref sig .tc := ⟨.hbm, 520, rfl⟩
abbrev main_v399 : Ref sig .tc := ⟨.hbm, 521, rfl⟩
abbrev main_v400 : Ref sig .tc := ⟨.hbm, 522, rfl⟩
abbrev main_v401 : Ref sig .tc := ⟨.hbm, 523, rfl⟩
abbrev main_cst_114 : Ref sig .tc := ⟨.hbm, 524, rfl⟩
abbrev main_v402 : Ref sig .tc := ⟨.hbm, 525, rfl⟩
abbrev main_v403 : Ref sig .tc := ⟨.hbm, 526, rfl⟩
abbrev main_cst_115 : Ref sig .tc := ⟨.hbm, 527, rfl⟩
abbrev main_v404 : Ref sig .tc := ⟨.hbm, 528, rfl⟩
abbrev main_v405 : Ref sig .tc := ⟨.hbm, 529, rfl⟩
abbrev main_v406 : Ref sig .tc := ⟨.hbm, 530, rfl⟩
abbrev main_cst_116 : Ref sig .tc := ⟨.hbm, 531, rfl⟩
abbrev main_v407 : Ref sig .tc := ⟨.hbm, 532, rfl⟩
abbrev main_cst_117 : Ref sig .tc := ⟨.hbm, 533, rfl⟩
abbrev main_v408 : Ref sig .tc := ⟨.hbm, 534, rfl⟩
abbrev main_v409 : Ref sig .tc := ⟨.hbm, 535, rfl⟩
abbrev main_c_118 : Ref sig .tc := ⟨.hbm, 536, rfl⟩
abbrev main_v410 : Ref sig .tc := ⟨.hbm, 537, rfl⟩
abbrev main_v411 : Ref sig .tc := ⟨.hbm, 538, rfl⟩
abbrev main_v412 : Ref sig .tc := ⟨.hbm, 539, rfl⟩
abbrev main_c_119 : Ref sig .tc := ⟨.hbm, 540, rfl⟩
abbrev main_v413 : Ref sig .tc := ⟨.hbm, 541, rfl⟩
abbrev main_v414 : Ref sig .tc := ⟨.hbm, 542, rfl⟩
abbrev main_c_120 : Ref sig .tc := ⟨.hbm, 543, rfl⟩
abbrev main_v415 : Ref sig .tc := ⟨.hbm, 544, rfl⟩
abbrev main_v416 : Ref sig .tc := ⟨.hbm, 545, rfl⟩
abbrev main_v417 : Ref sig .tc := ⟨.hbm, 546, rfl⟩
abbrev main_v418 : Ref sig .tc := ⟨.hbm, 547, rfl⟩
abbrev main_v419 : Ref sig .tc := ⟨.hbm, 548, rfl⟩
abbrev main_c_121 : Ref sig .tc := ⟨.hbm, 549, rfl⟩
abbrev main_v420 : Ref sig .tc := ⟨.hbm, 550, rfl⟩
abbrev main_v421 : Ref sig .tc := ⟨.hbm, 551, rfl⟩
abbrev main_v422 : Ref sig .tc := ⟨.hbm, 552, rfl⟩
abbrev main_v423 : Ref sig .tc := ⟨.hbm, 553, rfl⟩
abbrev main_cst_122 : Ref sig .tc := ⟨.hbm, 554, rfl⟩
abbrev main_v424 : Ref sig .tc := ⟨.hbm, 555, rfl⟩
abbrev main_c_123 : Ref sig .tc := ⟨.hbm, 556, rfl⟩
abbrev main_v425 : Ref sig .tc := ⟨.hbm, 557, rfl⟩
abbrev main_v426 : Ref sig .tc := ⟨.hbm, 558, rfl⟩
abbrev main_c_124 : Ref sig .tc := ⟨.hbm, 559, rfl⟩
abbrev main_v427 : Ref sig .tc := ⟨.hbm, 560, rfl⟩
abbrev main_v428 : Ref sig .tc := ⟨.hbm, 561, rfl⟩
abbrev main_v429 : Ref sig .tc := ⟨.hbm, 562, rfl⟩
abbrev main_v430 : Ref sig .tc := ⟨.hbm, 563, rfl⟩
abbrev main_v431 : Ref sig .tc := ⟨.hbm, 564, rfl⟩
abbrev main_v432 : Ref sig .tc := ⟨.hbm, 565, rfl⟩
abbrev main_cst_125 : Ref sig .tc := ⟨.hbm, 566, rfl⟩
abbrev main_v433 : Ref sig .tc := ⟨.hbm, 567, rfl⟩
abbrev main_v434 : Ref sig .tc := ⟨.hbm, 568, rfl⟩
abbrev main_cst_126 : Ref sig .tc := ⟨.hbm, 569, rfl⟩
abbrev main_v435 : Ref sig .tc := ⟨.hbm, 570, rfl⟩
abbrev main_v436 : Ref sig .tc := ⟨.hbm, 571, rfl⟩
abbrev main_v437 : Ref sig .tc := ⟨.hbm, 572, rfl⟩
abbrev main_v438 : Ref sig .tc := ⟨.hbm, 573, rfl⟩
abbrev main_v439 : Ref sig .tc := ⟨.hbm, 574, rfl⟩
abbrev main_cst_127 : Ref sig .tc := ⟨.hbm, 575, rfl⟩
abbrev main_v440 : Ref sig .tc := ⟨.hbm, 576, rfl⟩
abbrev main_v441 : Ref sig .tc := ⟨.hbm, 577, rfl⟩
abbrev main_v442 : Ref sig .tc := ⟨.hbm, 578, rfl⟩
abbrev main_v443 : Ref sig .tc := ⟨.hbm, 579, rfl⟩
abbrev main_v444 : Ref sig .tc := ⟨.hbm, 580, rfl⟩
abbrev main_cst_128 : Ref sig .tc := ⟨.hbm, 581, rfl⟩
abbrev main_v445 : Ref sig .tc := ⟨.hbm, 582, rfl⟩
abbrev main_v446 : Ref sig .tc := ⟨.hbm, 583, rfl⟩
abbrev main_v447 : Ref sig .tc := ⟨.hbm, 584, rfl⟩
abbrev main_v448 : Ref sig .tc := ⟨.hbm, 585, rfl⟩
abbrev main_cst_129 : Ref sig .tc := ⟨.hbm, 586, rfl⟩
abbrev main_v449 : Ref sig .tc := ⟨.hbm, 587, rfl⟩
abbrev main_v450 : Ref sig .tc := ⟨.hbm, 588, rfl⟩
abbrev main_v451 : Ref sig .tc := ⟨.hbm, 589, rfl⟩
abbrev main_v452 : Ref sig .tc := ⟨.hbm, 590, rfl⟩
abbrev main_v453 : Ref sig .tc := ⟨.hbm, 591, rfl⟩
abbrev main_v454 : Ref sig .tc := ⟨.hbm, 592, rfl⟩
abbrev main_cst_130 : Ref sig .tc := ⟨.hbm, 593, rfl⟩
abbrev main_v455 : Ref sig .tc := ⟨.hbm, 594, rfl⟩
abbrev main_v456 : Ref sig .tc := ⟨.hbm, 595, rfl⟩
abbrev main_v457 : Ref sig .tc := ⟨.hbm, 596, rfl⟩
abbrev main_v458 : Ref sig .tc := ⟨.hbm, 597, rfl⟩
abbrev main_cst_131 : Ref sig .tc := ⟨.hbm, 598, rfl⟩
abbrev main_v459 : Ref sig .tc := ⟨.hbm, 599, rfl⟩
abbrev main_v460 : Ref sig .tc := ⟨.hbm, 600, rfl⟩
abbrev main_cst_132 : Ref sig .tc := ⟨.hbm, 601, rfl⟩
abbrev main_v461 : Ref sig .tc := ⟨.hbm, 602, rfl⟩
abbrev main_v462 : Ref sig .tc := ⟨.hbm, 603, rfl⟩
abbrev main_v463 : Ref sig .tc := ⟨.hbm, 604, rfl⟩
abbrev main_cst_133 : Ref sig .tc := ⟨.hbm, 605, rfl⟩
abbrev main_v464 : Ref sig .tc := ⟨.hbm, 606, rfl⟩
abbrev main_cst_134 : Ref sig .tc := ⟨.hbm, 607, rfl⟩
abbrev main_v465 : Ref sig .tc := ⟨.hbm, 608, rfl⟩
abbrev main_v466 : Ref sig .tc := ⟨.hbm, 609, rfl⟩
abbrev main_c_135 : Ref sig .tc := ⟨.hbm, 610, rfl⟩
abbrev main_v467 : Ref sig .tc := ⟨.hbm, 611, rfl⟩
abbrev main_v468 : Ref sig .tc := ⟨.hbm, 612, rfl⟩
abbrev main_v469 : Ref sig .tc := ⟨.hbm, 613, rfl⟩
abbrev main_c_136 : Ref sig .tc := ⟨.hbm, 614, rfl⟩
abbrev main_v470 : Ref sig .tc := ⟨.hbm, 615, rfl⟩
abbrev main_v471 : Ref sig .tc := ⟨.hbm, 616, rfl⟩
abbrev main_c_137 : Ref sig .tc := ⟨.hbm, 617, rfl⟩
abbrev main_v472 : Ref sig .tc := ⟨.hbm, 618, rfl⟩
abbrev main_v473 : Ref sig .tc := ⟨.hbm, 619, rfl⟩
abbrev main_v474 : Ref sig .tc := ⟨.hbm, 620, rfl⟩
abbrev main_v475 : Ref sig .tc := ⟨.hbm, 621, rfl⟩
abbrev main_v476 : Ref sig .tc := ⟨.hbm, 622, rfl⟩
abbrev main_c_138 : Ref sig .tc := ⟨.hbm, 623, rfl⟩
abbrev main_v477 : Ref sig .tc := ⟨.hbm, 624, rfl⟩
abbrev main_v478 : Ref sig .tc := ⟨.hbm, 625, rfl⟩
abbrev main_v479 : Ref sig .tc := ⟨.hbm, 626, rfl⟩
abbrev main_v480 : Ref sig .tc := ⟨.hbm, 627, rfl⟩
abbrev main_cst_139 : Ref sig .tc := ⟨.hbm, 628, rfl⟩
abbrev main_v481 : Ref sig .tc := ⟨.hbm, 629, rfl⟩
abbrev main_c_140 : Ref sig .tc := ⟨.hbm, 630, rfl⟩
abbrev main_v482 : Ref sig .tc := ⟨.hbm, 631, rfl⟩
abbrev main_v483 : Ref sig .tc := ⟨.hbm, 632, rfl⟩
abbrev main_c_141 : Ref sig .tc := ⟨.hbm, 633, rfl⟩
abbrev main_v484 : Ref sig .tc := ⟨.hbm, 634, rfl⟩
abbrev main_v485 : Ref sig .tc := ⟨.hbm, 635, rfl⟩
abbrev main_v486 : Ref sig .tc := ⟨.hbm, 636, rfl⟩
abbrev main_v487 : Ref sig .tc := ⟨.hbm, 637, rfl⟩
abbrev main_v488 : Ref sig .tc := ⟨.hbm, 638, rfl⟩
abbrev main_v489 : Ref sig .tc := ⟨.hbm, 639, rfl⟩
abbrev main_cst_142 : Ref sig .tc := ⟨.hbm, 640, rfl⟩
abbrev main_v490 : Ref sig .tc := ⟨.hbm, 641, rfl⟩
abbrev main_v491 : Ref sig .tc := ⟨.hbm, 642, rfl⟩
abbrev main_cst_143 : Ref sig .tc := ⟨.hbm, 643, rfl⟩
abbrev main_v492 : Ref sig .tc := ⟨.hbm, 644, rfl⟩
abbrev main_v493 : Ref sig .tc := ⟨.hbm, 645, rfl⟩
abbrev main_v494 : Ref sig .tc := ⟨.hbm, 646, rfl⟩
abbrev main_v495 : Ref sig .tc := ⟨.hbm, 647, rfl⟩
abbrev main_v496 : Ref sig .tc := ⟨.hbm, 648, rfl⟩
abbrev main_cst_144 : Ref sig .tc := ⟨.hbm, 649, rfl⟩
abbrev main_v497 : Ref sig .tc := ⟨.hbm, 650, rfl⟩
abbrev main_v498 : Ref sig .tc := ⟨.hbm, 651, rfl⟩
abbrev main_v499 : Ref sig .tc := ⟨.hbm, 652, rfl⟩
abbrev main_v500 : Ref sig .tc := ⟨.hbm, 653, rfl⟩
abbrev main_v501 : Ref sig .tc := ⟨.hbm, 654, rfl⟩
abbrev main_cst_145 : Ref sig .tc := ⟨.hbm, 655, rfl⟩
abbrev main_v502 : Ref sig .tc := ⟨.hbm, 656, rfl⟩
abbrev main_v503 : Ref sig .tc := ⟨.hbm, 657, rfl⟩
abbrev main_v504 : Ref sig .tc := ⟨.hbm, 658, rfl⟩
abbrev main_v505 : Ref sig .tc := ⟨.hbm, 659, rfl⟩
abbrev main_cst_146 : Ref sig .tc := ⟨.hbm, 660, rfl⟩
abbrev main_v506 : Ref sig .tc := ⟨.hbm, 661, rfl⟩
abbrev main_v507 : Ref sig .tc := ⟨.hbm, 662, rfl⟩
abbrev main_v508 : Ref sig .tc := ⟨.hbm, 663, rfl⟩
abbrev main_v509 : Ref sig .tc := ⟨.hbm, 664, rfl⟩
abbrev main_v510 : Ref sig .tc := ⟨.hbm, 665, rfl⟩
abbrev main_v511 : Ref sig .tc := ⟨.hbm, 666, rfl⟩
abbrev main_cst_147 : Ref sig .tc := ⟨.hbm, 667, rfl⟩
abbrev main_v512 : Ref sig .tc := ⟨.hbm, 668, rfl⟩
abbrev main_v513 : Ref sig .tc := ⟨.hbm, 669, rfl⟩
abbrev main_v514 : Ref sig .tc := ⟨.hbm, 670, rfl⟩
abbrev main_v515 : Ref sig .tc := ⟨.hbm, 671, rfl⟩
abbrev main_cst_148 : Ref sig .tc := ⟨.hbm, 672, rfl⟩
abbrev main_v516 : Ref sig .tc := ⟨.hbm, 673, rfl⟩
abbrev main_v517 : Ref sig .tc := ⟨.hbm, 674, rfl⟩
abbrev main_cst_149 : Ref sig .tc := ⟨.hbm, 675, rfl⟩
abbrev main_v518 : Ref sig .tc := ⟨.hbm, 676, rfl⟩
abbrev main_v519 : Ref sig .tc := ⟨.hbm, 677, rfl⟩
abbrev main_v520 : Ref sig .tc := ⟨.hbm, 678, rfl⟩
abbrev main_cst_150 : Ref sig .tc := ⟨.hbm, 679, rfl⟩
abbrev main_v521 : Ref sig .tc := ⟨.hbm, 680, rfl⟩
abbrev main_cst_151 : Ref sig .tc := ⟨.hbm, 681, rfl⟩
abbrev main_v522 : Ref sig .tc := ⟨.hbm, 682, rfl⟩
abbrev main_v523 : Ref sig .tc := ⟨.hbm, 683, rfl⟩
abbrev main_c_152 : Ref sig .tc := ⟨.hbm, 684, rfl⟩
abbrev main_v524 : Ref sig .tc := ⟨.hbm, 685, rfl⟩
abbrev main_v525 : Ref sig .tc := ⟨.hbm, 686, rfl⟩
abbrev main_v526 : Ref sig .tc := ⟨.hbm, 687, rfl⟩
abbrev main_c_153 : Ref sig .tc := ⟨.hbm, 688, rfl⟩
abbrev main_v527 : Ref sig .tc := ⟨.hbm, 689, rfl⟩
abbrev main_v528 : Ref sig .tc := ⟨.hbm, 690, rfl⟩
abbrev main_c_154 : Ref sig .tc := ⟨.hbm, 691, rfl⟩
abbrev main_v529 : Ref sig .tc := ⟨.hbm, 692, rfl⟩
abbrev main_v530 : Ref sig .tc := ⟨.hbm, 693, rfl⟩
abbrev main_v531 : Ref sig .tc := ⟨.hbm, 694, rfl⟩
abbrev main_v532 : Ref sig .tc := ⟨.hbm, 695, rfl⟩
abbrev main_v533 : Ref sig .tc := ⟨.hbm, 696, rfl⟩
abbrev main_c_155 : Ref sig .tc := ⟨.hbm, 697, rfl⟩
abbrev main_v534 : Ref sig .tc := ⟨.hbm, 698, rfl⟩
abbrev main_v535 : Ref sig .tc := ⟨.hbm, 699, rfl⟩
abbrev main_v536 : Ref sig .tc := ⟨.hbm, 700, rfl⟩
abbrev main_v537 : Ref sig .tc := ⟨.hbm, 701, rfl⟩
abbrev main_cst_156 : Ref sig .tc := ⟨.hbm, 702, rfl⟩
abbrev main_v538 : Ref sig .tc := ⟨.hbm, 703, rfl⟩
abbrev main_c_157 : Ref sig .tc := ⟨.hbm, 704, rfl⟩
abbrev main_v539 : Ref sig .tc := ⟨.hbm, 705, rfl⟩
abbrev main_v540 : Ref sig .tc := ⟨.hbm, 706, rfl⟩
abbrev main_c_158 : Ref sig .tc := ⟨.hbm, 707, rfl⟩
abbrev main_v541 : Ref sig .tc := ⟨.hbm, 708, rfl⟩
abbrev main_v542 : Ref sig .tc := ⟨.hbm, 709, rfl⟩
abbrev main_v543 : Ref sig .tc := ⟨.hbm, 710, rfl⟩
abbrev main_v544 : Ref sig .tc := ⟨.hbm, 711, rfl⟩
abbrev main_v545 : Ref sig .tc := ⟨.hbm, 712, rfl⟩
abbrev main_v546 : Ref sig .tc := ⟨.hbm, 713, rfl⟩
abbrev main_cst_159 : Ref sig .tc := ⟨.hbm, 714, rfl⟩
abbrev main_v547 : Ref sig .tc := ⟨.hbm, 715, rfl⟩
abbrev main_v548 : Ref sig .tc := ⟨.hbm, 716, rfl⟩
abbrev main_cst_160 : Ref sig .tc := ⟨.hbm, 717, rfl⟩
abbrev main_v549 : Ref sig .tc := ⟨.hbm, 718, rfl⟩
abbrev main_v550 : Ref sig .tc := ⟨.hbm, 719, rfl⟩
abbrev main_v551 : Ref sig .tc := ⟨.hbm, 720, rfl⟩
abbrev main_v552 : Ref sig .tc := ⟨.hbm, 721, rfl⟩
abbrev main_v553 : Ref sig .tc := ⟨.hbm, 722, rfl⟩
abbrev main_cst_161 : Ref sig .tc := ⟨.hbm, 723, rfl⟩
abbrev main_v554 : Ref sig .tc := ⟨.hbm, 724, rfl⟩
abbrev main_v555 : Ref sig .tc := ⟨.hbm, 725, rfl⟩
abbrev main_v556 : Ref sig .tc := ⟨.hbm, 726, rfl⟩
abbrev main_v557 : Ref sig .tc := ⟨.hbm, 727, rfl⟩
abbrev main_v558 : Ref sig .tc := ⟨.hbm, 728, rfl⟩
abbrev main_cst_162 : Ref sig .tc := ⟨.hbm, 729, rfl⟩
abbrev main_v559 : Ref sig .tc := ⟨.hbm, 730, rfl⟩
abbrev main_v560 : Ref sig .tc := ⟨.hbm, 731, rfl⟩
abbrev main_v561 : Ref sig .tc := ⟨.hbm, 732, rfl⟩
abbrev main_v562 : Ref sig .tc := ⟨.hbm, 733, rfl⟩
abbrev main_cst_163 : Ref sig .tc := ⟨.hbm, 734, rfl⟩
abbrev main_v563 : Ref sig .tc := ⟨.hbm, 735, rfl⟩
abbrev main_v564 : Ref sig .tc := ⟨.hbm, 736, rfl⟩
abbrev main_v565 : Ref sig .tc := ⟨.hbm, 737, rfl⟩
abbrev main_v566 : Ref sig .tc := ⟨.hbm, 738, rfl⟩
abbrev main_v567 : Ref sig .tc := ⟨.hbm, 739, rfl⟩
abbrev main_v568 : Ref sig .tc := ⟨.hbm, 740, rfl⟩
abbrev main_cst_164 : Ref sig .tc := ⟨.hbm, 741, rfl⟩
abbrev main_v569 : Ref sig .tc := ⟨.hbm, 742, rfl⟩
abbrev main_v570 : Ref sig .tc := ⟨.hbm, 743, rfl⟩
abbrev main_v571 : Ref sig .tc := ⟨.hbm, 744, rfl⟩
abbrev main_v572 : Ref sig .tc := ⟨.hbm, 745, rfl⟩
abbrev main_cst_165 : Ref sig .tc := ⟨.hbm, 746, rfl⟩
abbrev main_v573 : Ref sig .tc := ⟨.hbm, 747, rfl⟩
abbrev main_v574 : Ref sig .tc := ⟨.hbm, 748, rfl⟩
abbrev main_cst_166 : Ref sig .tc := ⟨.hbm, 749, rfl⟩
abbrev main_v575 : Ref sig .tc := ⟨.hbm, 750, rfl⟩
abbrev main_v576 : Ref sig .tc := ⟨.hbm, 751, rfl⟩
abbrev main_v577 : Ref sig .tc := ⟨.hbm, 752, rfl⟩
abbrev main_cst_167 : Ref sig .tc := ⟨.hbm, 753, rfl⟩
abbrev main_v578 : Ref sig .tc := ⟨.hbm, 754, rfl⟩
abbrev main_cst_168 : Ref sig .tc := ⟨.hbm, 755, rfl⟩
abbrev main_v579 : Ref sig .tc := ⟨.hbm, 756, rfl⟩
abbrev main_v580 : Ref sig .tc := ⟨.hbm, 757, rfl⟩
abbrev main_c_169 : Ref sig .tc := ⟨.hbm, 758, rfl⟩
abbrev main_v581 : Ref sig .tc := ⟨.hbm, 759, rfl⟩
abbrev main_v582 : Ref sig .tc := ⟨.hbm, 760, rfl⟩
abbrev main_v583 : Ref sig .tc := ⟨.hbm, 761, rfl⟩
abbrev main_c_170 : Ref sig .tc := ⟨.hbm, 762, rfl⟩
abbrev main_v584 : Ref sig .tc := ⟨.hbm, 763, rfl⟩
abbrev main_v585 : Ref sig .tc := ⟨.hbm, 764, rfl⟩
abbrev main_c_171 : Ref sig .tc := ⟨.hbm, 765, rfl⟩
abbrev main_v586 : Ref sig .tc := ⟨.hbm, 766, rfl⟩
abbrev main_v587 : Ref sig .tc := ⟨.hbm, 767, rfl⟩
abbrev main_v588 : Ref sig .tc := ⟨.hbm, 768, rfl⟩
abbrev main_v589 : Ref sig .tc := ⟨.hbm, 769, rfl⟩
abbrev main_v590 : Ref sig .tc := ⟨.hbm, 770, rfl⟩
abbrev main_c_172 : Ref sig .tc := ⟨.hbm, 771, rfl⟩
abbrev main_v591 : Ref sig .tc := ⟨.hbm, 772, rfl⟩
abbrev main_v592 : Ref sig .tc := ⟨.hbm, 773, rfl⟩
abbrev main_v593 : Ref sig .tc := ⟨.hbm, 774, rfl⟩
abbrev main_v594 : Ref sig .tc := ⟨.hbm, 775, rfl⟩
abbrev main_cst_173 : Ref sig .tc := ⟨.hbm, 776, rfl⟩
abbrev main_v595 : Ref sig .tc := ⟨.hbm, 777, rfl⟩
abbrev main_c_174 : Ref sig .tc := ⟨.hbm, 778, rfl⟩
abbrev main_v596 : Ref sig .tc := ⟨.hbm, 779, rfl⟩
abbrev main_v597 : Ref sig .tc := ⟨.hbm, 780, rfl⟩
abbrev main_c_175 : Ref sig .tc := ⟨.hbm, 781, rfl⟩
abbrev main_v598 : Ref sig .tc := ⟨.hbm, 782, rfl⟩
abbrev main_v599 : Ref sig .tc := ⟨.hbm, 783, rfl⟩
abbrev main_v600 : Ref sig .tc := ⟨.hbm, 784, rfl⟩
abbrev main_v601 : Ref sig .tc := ⟨.hbm, 785, rfl⟩
abbrev main_v602 : Ref sig .tc := ⟨.hbm, 786, rfl⟩
abbrev main_v603 : Ref sig .tc := ⟨.hbm, 787, rfl⟩
abbrev main_cst_176 : Ref sig .tc := ⟨.hbm, 788, rfl⟩
abbrev main_v604 : Ref sig .tc := ⟨.hbm, 789, rfl⟩
abbrev main_v605 : Ref sig .tc := ⟨.hbm, 790, rfl⟩
abbrev main_cst_177 : Ref sig .tc := ⟨.hbm, 791, rfl⟩
abbrev main_v606 : Ref sig .tc := ⟨.hbm, 792, rfl⟩
abbrev main_v607 : Ref sig .tc := ⟨.hbm, 793, rfl⟩
abbrev main_v608 : Ref sig .tc := ⟨.hbm, 794, rfl⟩
abbrev main_v609 : Ref sig .tc := ⟨.hbm, 795, rfl⟩
abbrev main_v610 : Ref sig .tc := ⟨.hbm, 796, rfl⟩
abbrev main_cst_178 : Ref sig .tc := ⟨.hbm, 797, rfl⟩
abbrev main_v611 : Ref sig .tc := ⟨.hbm, 798, rfl⟩
abbrev main_v612 : Ref sig .tc := ⟨.hbm, 799, rfl⟩
abbrev main_v613 : Ref sig .tc := ⟨.hbm, 800, rfl⟩
abbrev main_v614 : Ref sig .tc := ⟨.hbm, 801, rfl⟩
abbrev main_v615 : Ref sig .tc := ⟨.hbm, 802, rfl⟩
abbrev main_cst_179 : Ref sig .tc := ⟨.hbm, 803, rfl⟩
abbrev main_v616 : Ref sig .tc := ⟨.hbm, 804, rfl⟩
abbrev main_v617 : Ref sig .tc := ⟨.hbm, 805, rfl⟩
abbrev main_v618 : Ref sig .tc := ⟨.hbm, 806, rfl⟩
abbrev main_v619 : Ref sig .tc := ⟨.hbm, 807, rfl⟩
abbrev main_cst_180 : Ref sig .tc := ⟨.hbm, 808, rfl⟩
abbrev main_v620 : Ref sig .tc := ⟨.hbm, 809, rfl⟩
abbrev main_v621 : Ref sig .tc := ⟨.hbm, 810, rfl⟩
abbrev main_v622 : Ref sig .tc := ⟨.hbm, 811, rfl⟩
abbrev main_v623 : Ref sig .tc := ⟨.hbm, 812, rfl⟩
abbrev main_v624 : Ref sig .tc := ⟨.hbm, 813, rfl⟩
abbrev main_v625 : Ref sig .tc := ⟨.hbm, 814, rfl⟩
abbrev main_cst_181 : Ref sig .tc := ⟨.hbm, 815, rfl⟩
abbrev main_v626 : Ref sig .tc := ⟨.hbm, 816, rfl⟩
abbrev main_v627 : Ref sig .tc := ⟨.hbm, 817, rfl⟩
abbrev main_v628 : Ref sig .tc := ⟨.hbm, 818, rfl⟩
abbrev main_v629 : Ref sig .tc := ⟨.hbm, 819, rfl⟩
abbrev main_cst_182 : Ref sig .tc := ⟨.hbm, 820, rfl⟩
abbrev main_v630 : Ref sig .tc := ⟨.hbm, 821, rfl⟩
abbrev main_v631 : Ref sig .tc := ⟨.hbm, 822, rfl⟩
abbrev main_cst_183 : Ref sig .tc := ⟨.hbm, 823, rfl⟩
abbrev main_v632 : Ref sig .tc := ⟨.hbm, 824, rfl⟩
abbrev main_v633 : Ref sig .tc := ⟨.hbm, 825, rfl⟩
abbrev main_v634 : Ref sig .tc := ⟨.hbm, 826, rfl⟩
abbrev main_cst_184 : Ref sig .tc := ⟨.hbm, 827, rfl⟩
abbrev main_v635 : Ref sig .tc := ⟨.hbm, 828, rfl⟩
abbrev main_cst_185 : Ref sig .tc := ⟨.hbm, 829, rfl⟩
abbrev main_v636 : Ref sig .tc := ⟨.hbm, 830, rfl⟩
abbrev main_v637 : Ref sig .tc := ⟨.hbm, 831, rfl⟩
abbrev main_c_186 : Ref sig .tc := ⟨.hbm, 832, rfl⟩
abbrev main_v638 : Ref sig .tc := ⟨.hbm, 833, rfl⟩
abbrev main_v639 : Ref sig .tc := ⟨.hbm, 834, rfl⟩
abbrev main_v640 : Ref sig .tc := ⟨.hbm, 835, rfl⟩
abbrev main_c_187 : Ref sig .tc := ⟨.hbm, 836, rfl⟩
abbrev main_v641 : Ref sig .tc := ⟨.hbm, 837, rfl⟩
abbrev main_v642 : Ref sig .tc := ⟨.hbm, 838, rfl⟩
abbrev main_c_188 : Ref sig .tc := ⟨.hbm, 839, rfl⟩
abbrev main_v643 : Ref sig .tc := ⟨.hbm, 840, rfl⟩
abbrev main_v644 : Ref sig .tc := ⟨.hbm, 841, rfl⟩
abbrev main_v645 : Ref sig .tc := ⟨.hbm, 842, rfl⟩
abbrev main_v646 : Ref sig .tc := ⟨.hbm, 843, rfl⟩
abbrev main_v647 : Ref sig .tc := ⟨.hbm, 844, rfl⟩
abbrev main_c_189 : Ref sig .tc := ⟨.hbm, 845, rfl⟩
abbrev main_v648 : Ref sig .tc := ⟨.hbm, 846, rfl⟩
abbrev main_v649 : Ref sig .tc := ⟨.hbm, 847, rfl⟩
abbrev main_v650 : Ref sig .tc := ⟨.hbm, 848, rfl⟩
abbrev main_v651 : Ref sig .tc := ⟨.hbm, 849, rfl⟩
abbrev main_cst_190 : Ref sig .tc := ⟨.hbm, 850, rfl⟩
abbrev main_v652 : Ref sig .tc := ⟨.hbm, 851, rfl⟩
abbrev main_c_191 : Ref sig .tc := ⟨.hbm, 852, rfl⟩
abbrev main_v653 : Ref sig .tc := ⟨.hbm, 853, rfl⟩
abbrev main_v654 : Ref sig .tc := ⟨.hbm, 854, rfl⟩
abbrev main_c_192 : Ref sig .tc := ⟨.hbm, 855, rfl⟩
abbrev main_v655 : Ref sig .tc := ⟨.hbm, 856, rfl⟩
abbrev main_v656 : Ref sig .tc := ⟨.hbm, 857, rfl⟩
abbrev main_v657 : Ref sig .tc := ⟨.hbm, 858, rfl⟩
abbrev main_v658 : Ref sig .tc := ⟨.hbm, 859, rfl⟩
abbrev main_v659 : Ref sig .tc := ⟨.hbm, 860, rfl⟩
abbrev main_v660 : Ref sig .tc := ⟨.hbm, 861, rfl⟩
abbrev main_cst_193 : Ref sig .tc := ⟨.hbm, 862, rfl⟩
abbrev main_v661 : Ref sig .tc := ⟨.hbm, 863, rfl⟩
abbrev main_v662 : Ref sig .tc := ⟨.hbm, 864, rfl⟩
abbrev main_cst_194 : Ref sig .tc := ⟨.hbm, 865, rfl⟩
abbrev main_v663 : Ref sig .tc := ⟨.hbm, 866, rfl⟩
abbrev main_v664 : Ref sig .tc := ⟨.hbm, 867, rfl⟩
abbrev main_v665 : Ref sig .tc := ⟨.hbm, 868, rfl⟩
abbrev main_v666 : Ref sig .tc := ⟨.hbm, 869, rfl⟩
abbrev main_v667 : Ref sig .tc := ⟨.hbm, 870, rfl⟩
abbrev main_cst_195 : Ref sig .tc := ⟨.hbm, 871, rfl⟩
abbrev main_v668 : Ref sig .tc := ⟨.hbm, 872, rfl⟩
abbrev main_v669 : Ref sig .tc := ⟨.hbm, 873, rfl⟩
abbrev main_v670 : Ref sig .tc := ⟨.hbm, 874, rfl⟩
abbrev main_v671 : Ref sig .tc := ⟨.hbm, 875, rfl⟩
abbrev main_v672 : Ref sig .tc := ⟨.hbm, 876, rfl⟩
abbrev main_cst_196 : Ref sig .tc := ⟨.hbm, 877, rfl⟩
abbrev main_v673 : Ref sig .tc := ⟨.hbm, 878, rfl⟩
abbrev main_v674 : Ref sig .tc := ⟨.hbm, 879, rfl⟩
abbrev main_v675 : Ref sig .tc := ⟨.hbm, 880, rfl⟩
abbrev main_v676 : Ref sig .tc := ⟨.hbm, 881, rfl⟩
abbrev main_cst_197 : Ref sig .tc := ⟨.hbm, 882, rfl⟩
abbrev main_v677 : Ref sig .tc := ⟨.hbm, 883, rfl⟩
abbrev main_v678 : Ref sig .tc := ⟨.hbm, 884, rfl⟩
abbrev main_v679 : Ref sig .tc := ⟨.hbm, 885, rfl⟩
abbrev main_v680 : Ref sig .tc := ⟨.hbm, 886, rfl⟩
abbrev main_v681 : Ref sig .tc := ⟨.hbm, 887, rfl⟩
abbrev main_v682 : Ref sig .tc := ⟨.hbm, 888, rfl⟩
abbrev main_cst_198 : Ref sig .tc := ⟨.hbm, 889, rfl⟩
abbrev main_v683 : Ref sig .tc := ⟨.hbm, 890, rfl⟩
abbrev main_v684 : Ref sig .tc := ⟨.hbm, 891, rfl⟩
abbrev main_v685 : Ref sig .tc := ⟨.hbm, 892, rfl⟩
abbrev main_v686 : Ref sig .tc := ⟨.hbm, 893, rfl⟩
abbrev main_cst_199 : Ref sig .tc := ⟨.hbm, 894, rfl⟩
abbrev main_v687 : Ref sig .tc := ⟨.hbm, 895, rfl⟩
abbrev main_v688 : Ref sig .tc := ⟨.hbm, 896, rfl⟩
abbrev main_cst_200 : Ref sig .tc := ⟨.hbm, 897, rfl⟩
abbrev main_v689 : Ref sig .tc := ⟨.hbm, 898, rfl⟩
abbrev main_v690 : Ref sig .tc := ⟨.hbm, 899, rfl⟩
abbrev main_v691 : Ref sig .tc := ⟨.hbm, 900, rfl⟩
abbrev main_cst_201 : Ref sig .tc := ⟨.hbm, 901, rfl⟩
abbrev main_v692 : Ref sig .tc := ⟨.hbm, 902, rfl⟩
abbrev main_cst_202 : Ref sig .tc := ⟨.hbm, 903, rfl⟩
abbrev main_v693 : Ref sig .tc := ⟨.hbm, 904, rfl⟩
abbrev main_v694 : Ref sig .tc := ⟨.hbm, 905, rfl⟩
abbrev main_c_203 : Ref sig .tc := ⟨.hbm, 906, rfl⟩
abbrev main_v695 : Ref sig .tc := ⟨.hbm, 907, rfl⟩
abbrev main_v696 : Ref sig .tc := ⟨.hbm, 908, rfl⟩
abbrev main_v697 : Ref sig .tc := ⟨.hbm, 909, rfl⟩
abbrev main_c_204 : Ref sig .tc := ⟨.hbm, 910, rfl⟩
abbrev main_v698 : Ref sig .tc := ⟨.hbm, 911, rfl⟩
abbrev main_v699 : Ref sig .tc := ⟨.hbm, 912, rfl⟩
abbrev main_c_205 : Ref sig .tc := ⟨.hbm, 913, rfl⟩
abbrev main_v700 : Ref sig .tc := ⟨.hbm, 914, rfl⟩
abbrev main_v701 : Ref sig .tc := ⟨.hbm, 915, rfl⟩
abbrev main_v702 : Ref sig .tc := ⟨.hbm, 916, rfl⟩
abbrev main_v703 : Ref sig .tc := ⟨.hbm, 917, rfl⟩
abbrev main_v704 : Ref sig .tc := ⟨.hbm, 918, rfl⟩
abbrev main_c_206 : Ref sig .tc := ⟨.hbm, 919, rfl⟩
abbrev main_v705 : Ref sig .tc := ⟨.hbm, 920, rfl⟩
abbrev main_v706 : Ref sig .tc := ⟨.hbm, 921, rfl⟩
abbrev main_v707 : Ref sig .tc := ⟨.hbm, 922, rfl⟩
abbrev main_v708 : Ref sig .tc := ⟨.hbm, 923, rfl⟩
abbrev main_cst_207 : Ref sig .tc := ⟨.hbm, 924, rfl⟩
abbrev main_v709 : Ref sig .tc := ⟨.hbm, 925, rfl⟩
abbrev main_c_208 : Ref sig .tc := ⟨.hbm, 926, rfl⟩
abbrev main_v710 : Ref sig .tc := ⟨.hbm, 927, rfl⟩
abbrev main_v711 : Ref sig .tc := ⟨.hbm, 928, rfl⟩
abbrev main_c_209 : Ref sig .tc := ⟨.hbm, 929, rfl⟩
abbrev main_v712 : Ref sig .tc := ⟨.hbm, 930, rfl⟩
abbrev main_v713 : Ref sig .tc := ⟨.hbm, 931, rfl⟩
abbrev main_v714 : Ref sig .tc := ⟨.hbm, 932, rfl⟩
abbrev main_v715 : Ref sig .tc := ⟨.hbm, 933, rfl⟩
abbrev main_v716 : Ref sig .tc := ⟨.hbm, 934, rfl⟩
abbrev main_v717 : Ref sig .tc := ⟨.hbm, 935, rfl⟩
abbrev main_cst_210 : Ref sig .tc := ⟨.hbm, 936, rfl⟩
abbrev main_v718 : Ref sig .tc := ⟨.hbm, 937, rfl⟩
abbrev main_v719 : Ref sig .tc := ⟨.hbm, 938, rfl⟩
abbrev main_cst_211 : Ref sig .tc := ⟨.hbm, 939, rfl⟩
abbrev main_v720 : Ref sig .tc := ⟨.hbm, 940, rfl⟩
abbrev main_v721 : Ref sig .tc := ⟨.hbm, 941, rfl⟩
abbrev main_v722 : Ref sig .tc := ⟨.hbm, 942, rfl⟩
abbrev main_v723 : Ref sig .tc := ⟨.hbm, 943, rfl⟩
abbrev main_v724 : Ref sig .tc := ⟨.hbm, 944, rfl⟩
abbrev main_cst_212 : Ref sig .tc := ⟨.hbm, 945, rfl⟩
abbrev main_v725 : Ref sig .tc := ⟨.hbm, 946, rfl⟩
abbrev main_v726 : Ref sig .tc := ⟨.hbm, 947, rfl⟩
abbrev main_v727 : Ref sig .tc := ⟨.hbm, 948, rfl⟩
abbrev main_v728 : Ref sig .tc := ⟨.hbm, 949, rfl⟩
abbrev main_v729 : Ref sig .tc := ⟨.hbm, 950, rfl⟩
abbrev main_cst_213 : Ref sig .tc := ⟨.hbm, 951, rfl⟩
abbrev main_v730 : Ref sig .tc := ⟨.hbm, 952, rfl⟩
abbrev main_v731 : Ref sig .tc := ⟨.hbm, 953, rfl⟩
abbrev main_v732 : Ref sig .tc := ⟨.hbm, 954, rfl⟩
abbrev main_v733 : Ref sig .tc := ⟨.hbm, 955, rfl⟩
abbrev main_cst_214 : Ref sig .tc := ⟨.hbm, 956, rfl⟩
abbrev main_v734 : Ref sig .tc := ⟨.hbm, 957, rfl⟩
abbrev main_v735 : Ref sig .tc := ⟨.hbm, 958, rfl⟩
abbrev main_v736 : Ref sig .tc := ⟨.hbm, 959, rfl⟩
abbrev main_v737 : Ref sig .tc := ⟨.hbm, 960, rfl⟩
abbrev main_v738 : Ref sig .tc := ⟨.hbm, 961, rfl⟩
abbrev main_v739 : Ref sig .tc := ⟨.hbm, 962, rfl⟩
abbrev main_cst_215 : Ref sig .tc := ⟨.hbm, 963, rfl⟩
abbrev main_v740 : Ref sig .tc := ⟨.hbm, 964, rfl⟩
abbrev main_v741 : Ref sig .tc := ⟨.hbm, 965, rfl⟩
abbrev main_v742 : Ref sig .tc := ⟨.hbm, 966, rfl⟩
abbrev main_v743 : Ref sig .tc := ⟨.hbm, 967, rfl⟩
abbrev main_cst_216 : Ref sig .tc := ⟨.hbm, 968, rfl⟩
abbrev main_v744 : Ref sig .tc := ⟨.hbm, 969, rfl⟩
abbrev main_v745 : Ref sig .tc := ⟨.hbm, 970, rfl⟩
abbrev main_cst_217 : Ref sig .tc := ⟨.hbm, 971, rfl⟩
abbrev main_v746 : Ref sig .tc := ⟨.hbm, 972, rfl⟩
abbrev main_v747 : Ref sig .tc := ⟨.hbm, 973, rfl⟩
abbrev main_v748 : Ref sig .tc := ⟨.hbm, 974, rfl⟩
abbrev main_cst_218 : Ref sig .tc := ⟨.hbm, 975, rfl⟩
abbrev main_v749 : Ref sig .tc := ⟨.hbm, 976, rfl⟩
abbrev main_cst_219 : Ref sig .tc := ⟨.hbm, 977, rfl⟩
abbrev main_v750 : Ref sig .tc := ⟨.hbm, 978, rfl⟩
abbrev main_v751 : Ref sig .tc := ⟨.hbm, 979, rfl⟩
abbrev main_c_220 : Ref sig .tc := ⟨.hbm, 980, rfl⟩
abbrev main_v752 : Ref sig .tc := ⟨.hbm, 981, rfl⟩
abbrev main_v753 : Ref sig .tc := ⟨.hbm, 982, rfl⟩
abbrev main_v754 : Ref sig .tc := ⟨.hbm, 983, rfl⟩
abbrev main_c_221 : Ref sig .tc := ⟨.hbm, 984, rfl⟩
abbrev main_v755 : Ref sig .tc := ⟨.hbm, 985, rfl⟩
abbrev main_v756 : Ref sig .tc := ⟨.hbm, 986, rfl⟩
abbrev main_c_222 : Ref sig .tc := ⟨.hbm, 987, rfl⟩
abbrev main_v757 : Ref sig .tc := ⟨.hbm, 988, rfl⟩
abbrev main_v758 : Ref sig .tc := ⟨.hbm, 989, rfl⟩
abbrev main_v759 : Ref sig .tc := ⟨.hbm, 990, rfl⟩
abbrev main_v760 : Ref sig .tc := ⟨.hbm, 991, rfl⟩
abbrev main_v761 : Ref sig .tc := ⟨.hbm, 992, rfl⟩
abbrev main_c_223 : Ref sig .tc := ⟨.hbm, 993, rfl⟩
abbrev main_v762 : Ref sig .tc := ⟨.hbm, 994, rfl⟩
abbrev main_v763 : Ref sig .tc := ⟨.hbm, 995, rfl⟩
abbrev main_v764 : Ref sig .tc := ⟨.hbm, 996, rfl⟩
abbrev main_v765 : Ref sig .tc := ⟨.hbm, 997, rfl⟩
abbrev main_cst_224 : Ref sig .tc := ⟨.hbm, 998, rfl⟩
abbrev main_v766 : Ref sig .tc := ⟨.hbm, 999, rfl⟩
abbrev main_c_225 : Ref sig .tc := ⟨.hbm, 1000, rfl⟩
abbrev main_v767 : Ref sig .tc := ⟨.hbm, 1001, rfl⟩
abbrev main_v768 : Ref sig .tc := ⟨.hbm, 1002, rfl⟩
abbrev main_c_226 : Ref sig .tc := ⟨.hbm, 1003, rfl⟩
abbrev main_v769 : Ref sig .tc := ⟨.hbm, 1004, rfl⟩
abbrev main_v770 : Ref sig .tc := ⟨.hbm, 1005, rfl⟩
abbrev main_v771 : Ref sig .tc := ⟨.hbm, 1006, rfl⟩
abbrev main_v772 : Ref sig .tc := ⟨.hbm, 1007, rfl⟩
abbrev main_v773 : Ref sig .tc := ⟨.hbm, 1008, rfl⟩
abbrev main_v774 : Ref sig .tc := ⟨.hbm, 1009, rfl⟩
abbrev main_cst_227 : Ref sig .tc := ⟨.hbm, 1010, rfl⟩
abbrev main_v775 : Ref sig .tc := ⟨.hbm, 1011, rfl⟩
abbrev main_v776 : Ref sig .tc := ⟨.hbm, 1012, rfl⟩
abbrev main_cst_228 : Ref sig .tc := ⟨.hbm, 1013, rfl⟩
abbrev main_v777 : Ref sig .tc := ⟨.hbm, 1014, rfl⟩
abbrev main_v778 : Ref sig .tc := ⟨.hbm, 1015, rfl⟩
abbrev main_v779 : Ref sig .tc := ⟨.hbm, 1016, rfl⟩
abbrev main_v780 : Ref sig .tc := ⟨.hbm, 1017, rfl⟩
abbrev main_v781 : Ref sig .tc := ⟨.hbm, 1018, rfl⟩
abbrev main_cst_229 : Ref sig .tc := ⟨.hbm, 1019, rfl⟩
abbrev main_v782 : Ref sig .tc := ⟨.hbm, 1020, rfl⟩
abbrev main_v783 : Ref sig .tc := ⟨.hbm, 1021, rfl⟩
abbrev main_v784 : Ref sig .tc := ⟨.hbm, 1022, rfl⟩
abbrev main_v785 : Ref sig .tc := ⟨.hbm, 1023, rfl⟩
abbrev main_v786 : Ref sig .tc := ⟨.hbm, 1024, rfl⟩
abbrev main_cst_230 : Ref sig .tc := ⟨.hbm, 1025, rfl⟩
abbrev main_v787 : Ref sig .tc := ⟨.hbm, 1026, rfl⟩
abbrev main_v788 : Ref sig .tc := ⟨.hbm, 1027, rfl⟩
abbrev main_v789 : Ref sig .tc := ⟨.hbm, 1028, rfl⟩
abbrev main_v790 : Ref sig .tc := ⟨.hbm, 1029, rfl⟩
abbrev main_cst_231 : Ref sig .tc := ⟨.hbm, 1030, rfl⟩
abbrev main_v791 : Ref sig .tc := ⟨.hbm, 1031, rfl⟩
abbrev main_v792 : Ref sig .tc := ⟨.hbm, 1032, rfl⟩
abbrev main_v793 : Ref sig .tc := ⟨.hbm, 1033, rfl⟩
abbrev main_v794 : Ref sig .tc := ⟨.hbm, 1034, rfl⟩
abbrev main_v795 : Ref sig .tc := ⟨.hbm, 1035, rfl⟩
abbrev main_v796 : Ref sig .tc := ⟨.hbm, 1036, rfl⟩
abbrev main_cst_232 : Ref sig .tc := ⟨.hbm, 1037, rfl⟩
abbrev main_v797 : Ref sig .tc := ⟨.hbm, 1038, rfl⟩
abbrev main_v798 : Ref sig .tc := ⟨.hbm, 1039, rfl⟩
abbrev main_v799 : Ref sig .tc := ⟨.hbm, 1040, rfl⟩
abbrev main_v800 : Ref sig .tc := ⟨.hbm, 1041, rfl⟩
abbrev main_cst_233 : Ref sig .tc := ⟨.hbm, 1042, rfl⟩
abbrev main_v801 : Ref sig .tc := ⟨.hbm, 1043, rfl⟩
abbrev main_v802 : Ref sig .tc := ⟨.hbm, 1044, rfl⟩
abbrev main_cst_234 : Ref sig .tc := ⟨.hbm, 1045, rfl⟩
abbrev main_v803 : Ref sig .tc := ⟨.hbm, 1046, rfl⟩
abbrev main_v804 : Ref sig .tc := ⟨.hbm, 1047, rfl⟩
abbrev main_v805 : Ref sig .tc := ⟨.hbm, 1048, rfl⟩
abbrev main_cst_235 : Ref sig .tc := ⟨.hbm, 1049, rfl⟩
abbrev main_v806 : Ref sig .tc := ⟨.hbm, 1050, rfl⟩
abbrev main_cst_236 : Ref sig .tc := ⟨.hbm, 1051, rfl⟩
abbrev main_v807 : Ref sig .tc := ⟨.hbm, 1052, rfl⟩
abbrev main_v808 : Ref sig .tc := ⟨.hbm, 1053, rfl⟩
abbrev main_c_237 : Ref sig .tc := ⟨.hbm, 1054, rfl⟩
abbrev main_v809 : Ref sig .tc := ⟨.hbm, 1055, rfl⟩
abbrev main_v810 : Ref sig .tc := ⟨.hbm, 1056, rfl⟩
abbrev main_v811 : Ref sig .tc := ⟨.hbm, 1057, rfl⟩
abbrev main_c_238 : Ref sig .tc := ⟨.hbm, 1058, rfl⟩
abbrev main_v812 : Ref sig .tc := ⟨.hbm, 1059, rfl⟩
abbrev main_v813 : Ref sig .tc := ⟨.hbm, 1060, rfl⟩
abbrev main_c_239 : Ref sig .tc := ⟨.hbm, 1061, rfl⟩
abbrev main_v814 : Ref sig .tc := ⟨.hbm, 1062, rfl⟩
abbrev main_v815 : Ref sig .tc := ⟨.hbm, 1063, rfl⟩
abbrev main_v816 : Ref sig .tc := ⟨.hbm, 1064, rfl⟩
abbrev main_v817 : Ref sig .tc := ⟨.hbm, 1065, rfl⟩
abbrev main_v818 : Ref sig .tc := ⟨.hbm, 1066, rfl⟩
abbrev main_c_240 : Ref sig .tc := ⟨.hbm, 1067, rfl⟩
abbrev main_v819 : Ref sig .tc := ⟨.hbm, 1068, rfl⟩
abbrev main_v820 : Ref sig .tc := ⟨.hbm, 1069, rfl⟩
abbrev main_v821 : Ref sig .tc := ⟨.hbm, 1070, rfl⟩
abbrev main_v822 : Ref sig .tc := ⟨.hbm, 1071, rfl⟩
abbrev main_cst_241 : Ref sig .tc := ⟨.hbm, 1072, rfl⟩
abbrev main_v823 : Ref sig .tc := ⟨.hbm, 1073, rfl⟩
abbrev main_c_242 : Ref sig .tc := ⟨.hbm, 1074, rfl⟩
abbrev main_v824 : Ref sig .tc := ⟨.hbm, 1075, rfl⟩
abbrev main_v825 : Ref sig .tc := ⟨.hbm, 1076, rfl⟩
abbrev main_c_243 : Ref sig .tc := ⟨.hbm, 1077, rfl⟩
abbrev main_v826 : Ref sig .tc := ⟨.hbm, 1078, rfl⟩
abbrev main_v827 : Ref sig .tc := ⟨.hbm, 1079, rfl⟩
abbrev main_v828 : Ref sig .tc := ⟨.hbm, 1080, rfl⟩
abbrev main_v829 : Ref sig .tc := ⟨.hbm, 1081, rfl⟩
abbrev main_v830 : Ref sig .tc := ⟨.hbm, 1082, rfl⟩
abbrev main_v831 : Ref sig .tc := ⟨.hbm, 1083, rfl⟩
abbrev main_cst_244 : Ref sig .tc := ⟨.hbm, 1084, rfl⟩
abbrev main_v832 : Ref sig .tc := ⟨.hbm, 1085, rfl⟩
abbrev main_v833 : Ref sig .tc := ⟨.hbm, 1086, rfl⟩
abbrev main_cst_245 : Ref sig .tc := ⟨.hbm, 1087, rfl⟩
abbrev main_v834 : Ref sig .tc := ⟨.hbm, 1088, rfl⟩
abbrev main_v835 : Ref sig .tc := ⟨.hbm, 1089, rfl⟩
abbrev main_v836 : Ref sig .tc := ⟨.hbm, 1090, rfl⟩
abbrev main_v837 : Ref sig .tc := ⟨.hbm, 1091, rfl⟩
abbrev main_v838 : Ref sig .tc := ⟨.hbm, 1092, rfl⟩
abbrev main_cst_246 : Ref sig .tc := ⟨.hbm, 1093, rfl⟩
abbrev main_v839 : Ref sig .tc := ⟨.hbm, 1094, rfl⟩
abbrev main_v840 : Ref sig .tc := ⟨.hbm, 1095, rfl⟩
abbrev main_v841 : Ref sig .tc := ⟨.hbm, 1096, rfl⟩
abbrev main_v842 : Ref sig .tc := ⟨.hbm, 1097, rfl⟩
abbrev main_v843 : Ref sig .tc := ⟨.hbm, 1098, rfl⟩
abbrev main_cst_247 : Ref sig .tc := ⟨.hbm, 1099, rfl⟩
abbrev main_v844 : Ref sig .tc := ⟨.hbm, 1100, rfl⟩
abbrev main_v845 : Ref sig .tc := ⟨.hbm, 1101, rfl⟩
abbrev main_v846 : Ref sig .tc := ⟨.hbm, 1102, rfl⟩
abbrev main_v847 : Ref sig .tc := ⟨.hbm, 1103, rfl⟩
abbrev main_cst_248 : Ref sig .tc := ⟨.hbm, 1104, rfl⟩
abbrev main_v848 : Ref sig .tc := ⟨.hbm, 1105, rfl⟩
abbrev main_v849 : Ref sig .tc := ⟨.hbm, 1106, rfl⟩
abbrev main_v850 : Ref sig .tc := ⟨.hbm, 1107, rfl⟩
abbrev main_v851 : Ref sig .tc := ⟨.hbm, 1108, rfl⟩
abbrev main_v852 : Ref sig .tc := ⟨.hbm, 1109, rfl⟩
abbrev main_v853 : Ref sig .tc := ⟨.hbm, 1110, rfl⟩
abbrev main_cst_249 : Ref sig .tc := ⟨.hbm, 1111, rfl⟩
abbrev main_v854 : Ref sig .tc := ⟨.hbm, 1112, rfl⟩
abbrev main_v855 : Ref sig .tc := ⟨.hbm, 1113, rfl⟩
abbrev main_v856 : Ref sig .tc := ⟨.hbm, 1114, rfl⟩
abbrev main_v857 : Ref sig .tc := ⟨.hbm, 1115, rfl⟩
abbrev main_cst_250 : Ref sig .tc := ⟨.hbm, 1116, rfl⟩
abbrev main_v858 : Ref sig .tc := ⟨.hbm, 1117, rfl⟩
abbrev main_v859 : Ref sig .tc := ⟨.hbm, 1118, rfl⟩
abbrev main_cst_251 : Ref sig .tc := ⟨.hbm, 1119, rfl⟩
abbrev main_v860 : Ref sig .tc := ⟨.hbm, 1120, rfl⟩
abbrev main_v861 : Ref sig .tc := ⟨.hbm, 1121, rfl⟩
abbrev main_v862 : Ref sig .tc := ⟨.hbm, 1122, rfl⟩
abbrev main_cst_252 : Ref sig .tc := ⟨.hbm, 1123, rfl⟩
abbrev main_v863 : Ref sig .tc := ⟨.hbm, 1124, rfl⟩
abbrev main_cst_253 : Ref sig .tc := ⟨.hbm, 1125, rfl⟩
abbrev main_v864 : Ref sig .tc := ⟨.hbm, 1126, rfl⟩
abbrev main_v865 : Ref sig .tc := ⟨.hbm, 1127, rfl⟩
abbrev main_c_254 : Ref sig .tc := ⟨.hbm, 1128, rfl⟩
abbrev main_v866 : Ref sig .tc := ⟨.hbm, 1129, rfl⟩
abbrev main_v867 : Ref sig .tc := ⟨.hbm, 1130, rfl⟩
abbrev main_v868 : Ref sig .tc := ⟨.hbm, 1131, rfl⟩
abbrev main_c_255 : Ref sig .tc := ⟨.hbm, 1132, rfl⟩
abbrev main_v869 : Ref sig .tc := ⟨.hbm, 1133, rfl⟩
abbrev main_v870 : Ref sig .tc := ⟨.hbm, 1134, rfl⟩
abbrev main_c_256 : Ref sig .tc := ⟨.hbm, 1135, rfl⟩
abbrev main_v871 : Ref sig .tc := ⟨.hbm, 1136, rfl⟩
abbrev main_v872 : Ref sig .tc := ⟨.hbm, 1137, rfl⟩
abbrev main_v873 : Ref sig .tc := ⟨.hbm, 1138, rfl⟩
abbrev main_v874 : Ref sig .tc := ⟨.hbm, 1139, rfl⟩
abbrev main_v875 : Ref sig .tc := ⟨.hbm, 1140, rfl⟩
abbrev main_c_257 : Ref sig .tc := ⟨.hbm, 1141, rfl⟩
abbrev main_v876 : Ref sig .tc := ⟨.hbm, 1142, rfl⟩
abbrev main_v877 : Ref sig .tc := ⟨.hbm, 1143, rfl⟩
abbrev main_v878 : Ref sig .tc := ⟨.hbm, 1144, rfl⟩
abbrev main_v879 : Ref sig .tc := ⟨.hbm, 1145, rfl⟩
abbrev main_cst_258 : Ref sig .tc := ⟨.hbm, 1146, rfl⟩
abbrev main_v880 : Ref sig .tc := ⟨.hbm, 1147, rfl⟩
abbrev main_c_259 : Ref sig .tc := ⟨.hbm, 1148, rfl⟩
abbrev main_v881 : Ref sig .tc := ⟨.hbm, 1149, rfl⟩
abbrev main_v882 : Ref sig .tc := ⟨.hbm, 1150, rfl⟩
abbrev main_c_260 : Ref sig .tc := ⟨.hbm, 1151, rfl⟩
abbrev main_v883 : Ref sig .tc := ⟨.hbm, 1152, rfl⟩
abbrev main_v884 : Ref sig .tc := ⟨.hbm, 1153, rfl⟩
abbrev main_v885 : Ref sig .tc := ⟨.hbm, 1154, rfl⟩
abbrev main_v886 : Ref sig .tc := ⟨.hbm, 1155, rfl⟩
abbrev main_v887 : Ref sig .tc := ⟨.hbm, 1156, rfl⟩
abbrev main_v888 : Ref sig .tc := ⟨.hbm, 1157, rfl⟩
abbrev main_cst_261 : Ref sig .tc := ⟨.hbm, 1158, rfl⟩
abbrev main_v889 : Ref sig .tc := ⟨.hbm, 1159, rfl⟩
abbrev main_v890 : Ref sig .tc := ⟨.hbm, 1160, rfl⟩
abbrev main_cst_262 : Ref sig .tc := ⟨.hbm, 1161, rfl⟩
abbrev main_v891 : Ref sig .tc := ⟨.hbm, 1162, rfl⟩
abbrev main_v892 : Ref sig .tc := ⟨.hbm, 1163, rfl⟩
abbrev main_v893 : Ref sig .tc := ⟨.hbm, 1164, rfl⟩
abbrev main_v894 : Ref sig .tc := ⟨.hbm, 1165, rfl⟩
abbrev main_v895 : Ref sig .tc := ⟨.hbm, 1166, rfl⟩
abbrev main_cst_263 : Ref sig .tc := ⟨.hbm, 1167, rfl⟩
abbrev main_v896 : Ref sig .tc := ⟨.hbm, 1168, rfl⟩
abbrev main_v897 : Ref sig .tc := ⟨.hbm, 1169, rfl⟩
abbrev main_v898 : Ref sig .tc := ⟨.hbm, 1170, rfl⟩
abbrev main_v899 : Ref sig .tc := ⟨.hbm, 1171, rfl⟩
abbrev main_v900 : Ref sig .tc := ⟨.hbm, 1172, rfl⟩
abbrev main_cst_264 : Ref sig .tc := ⟨.hbm, 1173, rfl⟩
abbrev main_v901 : Ref sig .tc := ⟨.hbm, 1174, rfl⟩
abbrev main_v902 : Ref sig .tc := ⟨.hbm, 1175, rfl⟩
abbrev main_v903 : Ref sig .tc := ⟨.hbm, 1176, rfl⟩
abbrev main_v904 : Ref sig .tc := ⟨.hbm, 1177, rfl⟩
abbrev main_cst_265 : Ref sig .tc := ⟨.hbm, 1178, rfl⟩
abbrev main_v905 : Ref sig .tc := ⟨.hbm, 1179, rfl⟩
abbrev main_v906 : Ref sig .tc := ⟨.hbm, 1180, rfl⟩
abbrev main_v907 : Ref sig .tc := ⟨.hbm, 1181, rfl⟩
abbrev main_v908 : Ref sig .tc := ⟨.hbm, 1182, rfl⟩
abbrev main_v909 : Ref sig .tc := ⟨.hbm, 1183, rfl⟩
abbrev main_v910 : Ref sig .tc := ⟨.hbm, 1184, rfl⟩
abbrev main_cst_266 : Ref sig .tc := ⟨.hbm, 1185, rfl⟩
abbrev main_v911 : Ref sig .tc := ⟨.hbm, 1186, rfl⟩
abbrev main_v912 : Ref sig .tc := ⟨.hbm, 1187, rfl⟩
abbrev main_v913 : Ref sig .tc := ⟨.hbm, 1188, rfl⟩
abbrev main_v914 : Ref sig .tc := ⟨.hbm, 1189, rfl⟩
abbrev main_cst_267 : Ref sig .tc := ⟨.hbm, 1190, rfl⟩
abbrev main_v915 : Ref sig .tc := ⟨.hbm, 1191, rfl⟩
abbrev main_v916 : Ref sig .tc := ⟨.hbm, 1192, rfl⟩
abbrev main_cst_268 : Ref sig .tc := ⟨.hbm, 1193, rfl⟩
abbrev main_v917 : Ref sig .tc := ⟨.hbm, 1194, rfl⟩
abbrev main_v918 : Ref sig .tc := ⟨.hbm, 1195, rfl⟩
abbrev main_v919 : Ref sig .tc := ⟨.hbm, 1196, rfl⟩
abbrev main_cst_269 : Ref sig .tc := ⟨.hbm, 1197, rfl⟩
abbrev main_v920 : Ref sig .tc := ⟨.hbm, 1198, rfl⟩
abbrev main_cst_270 : Ref sig .tc := ⟨.hbm, 1199, rfl⟩
abbrev main_v921 : Ref sig .tc := ⟨.hbm, 1200, rfl⟩
abbrev main_v922 : Ref sig .tc := ⟨.hbm, 1201, rfl⟩
abbrev main_c_271 : Ref sig .tc := ⟨.hbm, 1202, rfl⟩
abbrev main_v923 : Ref sig .tc := ⟨.hbm, 1203, rfl⟩
abbrev main_v924 : Ref sig .tc := ⟨.hbm, 1204, rfl⟩
abbrev main_v925 : Ref sig .tc := ⟨.hbm, 1205, rfl⟩
abbrev main_c_272 : Ref sig .tc := ⟨.hbm, 1206, rfl⟩
abbrev main_v926 : Ref sig .tc := ⟨.hbm, 1207, rfl⟩
abbrev main_v927 : Ref sig .tc := ⟨.hbm, 1208, rfl⟩
abbrev main_c_273 : Ref sig .tc := ⟨.hbm, 1209, rfl⟩
abbrev main_v928 : Ref sig .tc := ⟨.hbm, 1210, rfl⟩
abbrev main_v929 : Ref sig .tc := ⟨.hbm, 1211, rfl⟩
abbrev main_v930 : Ref sig .tc := ⟨.hbm, 1212, rfl⟩
abbrev main_v931 : Ref sig .tc := ⟨.hbm, 1213, rfl⟩
abbrev main_v932 : Ref sig .tc := ⟨.hbm, 1214, rfl⟩
abbrev main_c_274 : Ref sig .tc := ⟨.hbm, 1215, rfl⟩
abbrev main_v933 : Ref sig .tc := ⟨.hbm, 1216, rfl⟩
abbrev main_v934 : Ref sig .tc := ⟨.hbm, 1217, rfl⟩
abbrev main_v935 : Ref sig .tc := ⟨.hbm, 1218, rfl⟩
abbrev main_v936 : Ref sig .tc := ⟨.hbm, 1219, rfl⟩
abbrev main_cst_275 : Ref sig .tc := ⟨.hbm, 1220, rfl⟩
abbrev main_v937 : Ref sig .tc := ⟨.hbm, 1221, rfl⟩
abbrev main_c_276 : Ref sig .tc := ⟨.hbm, 1222, rfl⟩
abbrev main_v938 : Ref sig .tc := ⟨.hbm, 1223, rfl⟩
abbrev main_v939 : Ref sig .tc := ⟨.hbm, 1224, rfl⟩
abbrev main_c_277 : Ref sig .tc := ⟨.hbm, 1225, rfl⟩
abbrev main_v940 : Ref sig .tc := ⟨.hbm, 1226, rfl⟩
abbrev main_v941 : Ref sig .tc := ⟨.hbm, 1227, rfl⟩
abbrev main_v942 : Ref sig .tc := ⟨.hbm, 1228, rfl⟩
abbrev main_v943 : Ref sig .tc := ⟨.hbm, 1229, rfl⟩
abbrev main_v944 : Ref sig .tc := ⟨.hbm, 1230, rfl⟩
abbrev main_v945 : Ref sig .tc := ⟨.hbm, 1231, rfl⟩
abbrev main_cst_278 : Ref sig .tc := ⟨.hbm, 1232, rfl⟩
abbrev main_v946 : Ref sig .tc := ⟨.hbm, 1233, rfl⟩
abbrev main_v947 : Ref sig .tc := ⟨.hbm, 1234, rfl⟩
abbrev main_cst_279 : Ref sig .tc := ⟨.hbm, 1235, rfl⟩
abbrev main_v948 : Ref sig .tc := ⟨.hbm, 1236, rfl⟩
abbrev main_v949 : Ref sig .tc := ⟨.hbm, 1237, rfl⟩
abbrev main_v950 : Ref sig .tc := ⟨.hbm, 1238, rfl⟩
abbrev main_v951 : Ref sig .tc := ⟨.hbm, 1239, rfl⟩
abbrev main_v952 : Ref sig .tc := ⟨.hbm, 1240, rfl⟩
abbrev main_cst_280 : Ref sig .tc := ⟨.hbm, 1241, rfl⟩
abbrev main_v953 : Ref sig .tc := ⟨.hbm, 1242, rfl⟩
abbrev main_v954 : Ref sig .tc := ⟨.hbm, 1243, rfl⟩
abbrev main_v955 : Ref sig .tc := ⟨.hbm, 1244, rfl⟩
abbrev main_v956 : Ref sig .tc := ⟨.hbm, 1245, rfl⟩
abbrev main_v957 : Ref sig .tc := ⟨.hbm, 1246, rfl⟩
abbrev main_cst_281 : Ref sig .tc := ⟨.hbm, 1247, rfl⟩
abbrev main_v958 : Ref sig .tc := ⟨.hbm, 1248, rfl⟩
abbrev main_v959 : Ref sig .tc := ⟨.hbm, 1249, rfl⟩
abbrev main_v960 : Ref sig .tc := ⟨.hbm, 1250, rfl⟩
abbrev main_v961 : Ref sig .tc := ⟨.hbm, 1251, rfl⟩
abbrev main_cst_282 : Ref sig .tc := ⟨.hbm, 1252, rfl⟩
abbrev main_v962 : Ref sig .tc := ⟨.hbm, 1253, rfl⟩
abbrev main_v963 : Ref sig .tc := ⟨.hbm, 1254, rfl⟩
abbrev main_v964 : Ref sig .tc := ⟨.hbm, 1255, rfl⟩
abbrev main_v965 : Ref sig .tc := ⟨.hbm, 1256, rfl⟩
abbrev main_v966 : Ref sig .tc := ⟨.hbm, 1257, rfl⟩
abbrev main_v967 : Ref sig .tc := ⟨.hbm, 1258, rfl⟩
abbrev main_cst_283 : Ref sig .tc := ⟨.hbm, 1259, rfl⟩
abbrev main_v968 : Ref sig .tc := ⟨.hbm, 1260, rfl⟩
abbrev main_v969 : Ref sig .tc := ⟨.hbm, 1261, rfl⟩
abbrev main_v970 : Ref sig .tc := ⟨.hbm, 1262, rfl⟩
abbrev main_v971 : Ref sig .tc := ⟨.hbm, 1263, rfl⟩
abbrev main_cst_284 : Ref sig .tc := ⟨.hbm, 1264, rfl⟩
abbrev main_v972 : Ref sig .tc := ⟨.hbm, 1265, rfl⟩
abbrev main_v973 : Ref sig .tc := ⟨.hbm, 1266, rfl⟩
abbrev main_cst_285 : Ref sig .tc := ⟨.hbm, 1267, rfl⟩
abbrev main_v974 : Ref sig .tc := ⟨.hbm, 1268, rfl⟩
abbrev main_v975 : Ref sig .tc := ⟨.hbm, 1269, rfl⟩
abbrev main_v976 : Ref sig .tc := ⟨.hbm, 1270, rfl⟩
abbrev main_cst_286 : Ref sig .tc := ⟨.hbm, 1271, rfl⟩
abbrev main_v977 : Ref sig .tc := ⟨.hbm, 1272, rfl⟩
abbrev main_cst_287 : Ref sig .tc := ⟨.hbm, 1273, rfl⟩
abbrev main_v978 : Ref sig .tc := ⟨.hbm, 1274, rfl⟩
abbrev main_v979 : Ref sig .tc := ⟨.hbm, 1275, rfl⟩
abbrev main_v980 : Ref sig .tc := ⟨.hbm, 1276, rfl⟩
abbrev main_v981 : Ref sig .tc := ⟨.hbm, 1277, rfl⟩
abbrev main_v982 : Ref sig .tc := ⟨.hbm, 1278, rfl⟩
abbrev main_v983 : Ref sig .tc := ⟨.hbm, 1279, rfl⟩
abbrev main_v984 : Ref sig .tc := ⟨.hbm, 1280, rfl⟩
abbrev main_v985 : Ref sig .tc := ⟨.hbm, 1281, rfl⟩
abbrev main_v986 : Ref sig .tc := ⟨.hbm, 1282, rfl⟩
abbrev main_v987 : Ref sig .tc := ⟨.hbm, 1283, rfl⟩
abbrev main_v988 : Ref sig .tc := ⟨.hbm, 1284, rfl⟩
abbrev main_v989 : Ref sig .tc := ⟨.hbm, 1285, rfl⟩
abbrev main_v990 : Ref sig .tc := ⟨.hbm, 1286, rfl⟩
abbrev main_v991 : Ref sig .tc := ⟨.hbm, 1287, rfl⟩
abbrev main_v992 : Ref sig .tc := ⟨.hbm, 1288, rfl⟩
abbrev main_v993 : Ref sig .tc := ⟨.hbm, 1289, rfl⟩
abbrev main_v994 : Ref sig .tc := ⟨.hbm, 1290, rfl⟩
abbrev main_v995 : Ref sig .tc := ⟨.hbm, 1291, rfl⟩
abbrev main_v996 : Ref sig .tc := ⟨.hbm, 1292, rfl⟩
abbrev main_v997 : Ref sig .tc := ⟨.hbm, 1293, rfl⟩
abbrev main_v998 : Ref sig .tc := ⟨.hbm, 1294, rfl⟩
abbrev main_v999 : Ref sig .tc := ⟨.hbm, 1295, rfl⟩
abbrev main_v1000 : Ref sig .tc := ⟨.hbm, 1296, rfl⟩
abbrev main_v1001 : Ref sig .tc := ⟨.hbm, 1297, rfl⟩
abbrev main_v1002 : Ref sig .tc := ⟨.hbm, 1298, rfl⟩
abbrev main_v1003 : Ref sig .tc := ⟨.hbm, 1299, rfl⟩
abbrev main_v1004 : Ref sig .tc := ⟨.hbm, 1300, rfl⟩
abbrev main_v1005 : Ref sig .tc := ⟨.hbm, 1301, rfl⟩
abbrev main_v1006 : Ref sig .tc := ⟨.hbm, 1302, rfl⟩
abbrev main_v1007 : Ref sig .tc := ⟨.hbm, 1303, rfl⟩
abbrev main_v1008 : Ref sig .tc := ⟨.hbm, 1304, rfl⟩
abbrev main_v1009 : Ref sig .tc := ⟨.hbm, 1305, rfl⟩
abbrev main_v1010 : Ref sig .tc := ⟨.hbm, 1306, rfl⟩
abbrev main_v1011 : Ref sig .tc := ⟨.hbm, 1307, rfl⟩
abbrev main_v1012 : Ref sig .tc := ⟨.hbm, 1308, rfl⟩
abbrev main_v1013 : Ref sig .tc := ⟨.hbm, 1309, rfl⟩
abbrev main_v1014 : Ref sig .tc := ⟨.hbm, 1310, rfl⟩
abbrev main_v1015 : Ref sig .tc := ⟨.hbm, 1311, rfl⟩
abbrev main_v1016 : Ref sig .tc := ⟨.hbm, 1312, rfl⟩
abbrev main_v1017 : Ref sig .tc := ⟨.hbm, 1313, rfl⟩
abbrev main_v1018 : Ref sig .tc := ⟨.hbm, 1314, rfl⟩
abbrev main_v1019 : Ref sig .tc := ⟨.hbm, 1315, rfl⟩
abbrev main_v1020 : Ref sig .tc := ⟨.hbm, 1316, rfl⟩
abbrev main_v1021 : Ref sig .tc := ⟨.hbm, 1317, rfl⟩
abbrev main_v1022 : Ref sig .tc := ⟨.hbm, 1318, rfl⟩
abbrev main_v1023 : Ref sig .tc := ⟨.hbm, 1319, rfl⟩
abbrev main_v1024 : Ref sig .tc := ⟨.hbm, 1320, rfl⟩
abbrev main_v1025 : Ref sig .tc := ⟨.hbm, 1321, rfl⟩
abbrev main_v1026 : Ref sig .tc := ⟨.hbm, 1322, rfl⟩
abbrev main_v1027 : Ref sig .tc := ⟨.hbm, 1323, rfl⟩
abbrev main_v1028 : Ref sig .tc := ⟨.hbm, 1324, rfl⟩
abbrev main_v1029 : Ref sig .tc := ⟨.hbm, 1325, rfl⟩

abbrev nD : Nat := 1
abbrev τ : Topo := Topo.v7x

variable {F : FTy → Type} [FloatOps F]
-- ==== Proof.RowDef.lean ====
/-
  One image's row of the kernel's result, as a function of the image's three channels and of the fifteen constant
  matrices, in the kernel's own operations. Everything is stated for any number of patches per side, so the five box
  sizes share it. `RowBody.lean` shows that the kernel body computes eight of these rows.
-/
module

public import Idealize.ShloMosaic.PureOps.Ideal.Laws
public import Idealize.ShloMosaic.Lib.MatmulPlain
public import Idealize.ShloMosaic.Run

@[expose] public section

noncomputable section

namespace Cert.Boxes

open Idealize.ShloMosaic

/-- A product contracting both operands over their first axes: `[M,K]ᵀ × [M,N]`. -/
def firstAxes (M K N : ℕ) : DotDims ⟨2, ![M, K]⟩ ⟨2, ![M, N]⟩ ⟨2, ![K, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The shape facts a whole-matrix sum needs at `R` rows and columns. -/
structure Square (R : ℕ) : Prop where
  /-- A matrix recast with a leading unit axis. -/
  cast : (⟨2, ![R, R]⟩ : Shape).ShapeCasts ⟨3, ![1, R, R]⟩
  /-- The two matrix axes summed away. -/
  red : (⟨3, ![1, R, R]⟩ : Shape).Reduces [1, 2] ⟨1, ![1]⟩
  /-- The one sum recast to rank three. -/
  one : (⟨1, ![1]⟩ : Shape).ShapeCasts ⟨3, ![1, 1, 1]⟩
  /-- Position `[0,0,0]` is in range. -/
  pos : ∀ a, (![0, 0, 0] : Fin 3 → Nat) a < (⟨3, ![1, 1, 1]⟩ : Shape).size a

variable {F : FTy → Type} [FloatOps F] {R m k n : ℕ}

/-- A matrix of floats. -/
abbrev Mat (F : FTy → Type) (m n : ℕ) : Type := FVec F ⟨2, ![m, n]⟩ .f32

/-- The product `A·B`. -/
def mul (A : Mat F m k) (B : Mat F k n) : Mat F m n :=
  FloatOps.matmul (DotDims.plain m k n) none A B (constant _ .f32 0x00000000#32)

/-- The product `A·Bᵀ`. -/
def mulT (A : Mat F m k) (B : Mat F n k) : Mat F m n :=
  FloatOps.matmul (DotDims.transposedRhs m k n) none A B (constant _ .f32 0x00000000#32)

/-- The product `Aᵀ·B`. -/
def tMul (A : Mat F m k) (B : Mat F m n) : Mat F k n :=
  FloatOps.matmul (firstAxes m k n) none A B (constant _ .f32 0x00000000#32)

/-- The patch centres of a channel: `G·x·Gᵀ`. -/
def centres (G : Mat F R n) (x : Mat F n n) : Mat F R R := mulT (mul G x) G

/-- Each patch's entry at every pixel of the patch: `Sᵀ·(u·S)`. -/
def spread (S : Mat F R n) (u : Mat F R R) : Mat F n n := tMul S (mul u S)

/-- The sum of a map over every patch: `S·y·Sᵀ`. -/
def gather (S : Mat F R n) (y : Mat F n n) : Mat F R R := mulT (mul S y) S

/-- A one-bit vector as zeros and ones. -/
def bits (c : IVec ⟨2, ![m, n]⟩ 1) : Mat F m n := sitofp .f32 (extui 32 c (by decide : 1 < 32))

/-- Where the largest of three maps is at most the threshold. -/
def maxLe (a0 a1 a2 : Mat F m n) (b : F .f32) : Mat F m n :=
  bits (cmpf .ole (maximumf (maximumf a0 a1) a2) (broadcast _ b))

/-- Where the sum of three maps is at most the threshold. -/
def sumLe (a0 a1 a2 : Mat F m n) (b : F .f32) : Mat F m n :=
  bits (cmpf .ole (addf (addf a0 a1) a2) (broadcast _ b))

/-- The sum of all entries of a matrix. -/
def total (h : Square R) (A : Mat F R R) : F .f32 :=
  extractAt ![0, 0, 0] (shapeCast ⟨3, ![1, 1, 1]⟩ (multiReduction .add [1, 2] ⟨1, ![1]⟩
    (shapeCast ⟨3, ![1, R, R]⟩ A h.cast) 0x00000000#32 h.red (.inl rfl) rfl) h.one) h.pos

/-- The float words of a box size: the box, its square, the number of patches. -/
structure Words where
  /-- The box size. -/
  box : BitVec 32
  /-- The number of pixels of a patch. -/
  cap : BitVec 32
  /-- The number of patches. -/
  num : BitVec 32

/-- The float of a word. -/
abbrev word (w : BitVec 32) : F .f32 := Scalar.ofBits .f32 w

/-- Where a count is below the number of pixels of a patch. -/
def valid (w : Words) (C : Mat F R R) : Mat F R R :=
  bits (cmpf .olt C (broadcast _ (Scalar.subf (word w.cap) (word 0x3F000000#32))))

/-- The counts plus one. -/
def next (C : Mat F R R) : Mat F R R := addf C (broadcast _ (word 0x3F800000#32))

/-- The first statistic of a matrix of counts. -/
def fdK (h : Square R) (w : Words) (C : Mat F R R) : F .f32 :=
  Scalar.divf (total h (divf (valid w C) (next C))) (total h (valid w C))

/-- The mean of the counts plus one. -/
def mu1K (h : Square R) (w : Words) (C : Mat F R R) : F .f32 :=
  Scalar.divf (total h (mulf (valid w C) (next C))) (total h (valid w C))

/-- The second statistic of a matrix of counts. -/
def lacK (h : Square R) (w : Words) (C : Mat F R R) : F .f32 :=
  Scalar.divf (Scalar.subf (Scalar.divf (total h (mulf (mulf (valid w C) (next C)) (next C))) (total h (valid w C)))
    (Scalar.mulf (mu1K h w C) (mu1K h w C))) (Scalar.mulf (mu1K h w C) (mu1K h w C))

/-- The third statistic of a matrix of counts. -/
def pqK (h : Square R) (w : Words) (C : Mat F R R) : F .f32 :=
  Scalar.divf (total h (bits (cmpf .oge (divf C (broadcast _ (word w.cap))) (broadcast _ (word 0x3F17BE77#32)))))
    (word w.num)

/-- The lane numbers of a row. -/
def lane (h : (⟨2, ![1, 45]⟩ : Shape).Iotas .tc 32 [1]) : IVec ⟨2, ![1, 45]⟩ 32 := iota .tc ⟨2, ![1, 45]⟩ 32 [1] h

/-- A row with `v` added at lane `i`. -/
def put (h : (⟨2, ![1, 45]⟩ : Shape).Iotas .tc 32 [1]) (row : Mat F 1 45) (i : BitVec 32) (v : F .f32) : Mat F 1 45 :=
  addf row (select (cmpi .eq (lane h) (broadcast _ i)) (broadcast _ v) (broadcast _ (word 0x00000000#32)))

/-- A row with the three statistics of a matrix of counts added at the lanes `i`, `j`, `k`. -/
def putStats (hI : (⟨2, ![1, 45]⟩ : Shape).Iotas .tc 32 [1]) (h : Square R) (w : Words) (C : Mat F R R)
    (i j k : BitVec 32) (row : Mat F 1 45) : Mat F 1 45 :=
  put hI (put hI (put hI row i (fdK h w C)) j (lacK h w C)) k (pqK h w C)

/-- The constants of a box size: the rows that pick the centres, the rows that mark the patches, the padded pixels of
    every patch. -/
structure Consts (F : FTy → Type) (R n : ℕ) where
  /-- One one per row, at the patch's centre. -/
  G : Mat F R n
  /-- Ones at the pixels of the patch. -/
  S : Mat F R n
  /-- The number of padded pixels of a patch. -/
  N : Mat F R R

/-- The counts of the maximum distance. -/
def chebK (w : Words) (K : Consts F R n) (x : Fin 3 → Mat F n n) : Mat F R R :=
  addf (gather K.S (maxLe (absf (subf (x 0) (spread K.S (centres K.G (x 0)))))
      (absf (subf (x 1) (spread K.S (centres K.G (x 1))))) (absf (subf (x 2) (spread K.S (centres K.G (x 2))))) (word w.box)))
    (mulf K.N (maxLe (absf (centres K.G (x 0))) (absf (centres K.G (x 1))) (absf (centres K.G (x 2))) (word w.box)))

/-- The counts of the squared norm. -/
def euclK (w : Words) (K : Consts F R n) (x : Fin 3 → Mat F n n) : Mat F R R :=
  addf (gather K.S (bits (cmpf .ole (addf (addf (mulf (x 0) (x 0)) (mulf (x 1) (x 1))) (mulf (x 2) (x 2)))
      (broadcast _ (Scalar.mulf (word w.box) (word w.box))))))
    (mulf K.N (broadcast _ (word 0x3F800000#32)))

/-- The counts of the sum distance. -/
def manhK (w : Words) (K : Consts F R n) (x : Fin 3 → Mat F n n) : Mat F R R :=
  addf (gather K.S (sumLe (absf (subf (x 0) (spread K.S (centres K.G (x 0)))))
      (absf (subf (x 1) (spread K.S (centres K.G (x 1))))) (absf (subf (x 2) (spread K.S (centres K.G (x 2))))) (word w.box)))
    (mulf K.N (sumLe (absf (centres K.G (x 0))) (absf (centres K.G (x 1))) (absf (centres K.G (x 2))) (word w.box)))

/-- A row with the nine statistics of one box size added. -/
def putBox (hI : (⟨2, ![1, 45]⟩ : Shape).Iotas .tc 32 [1]) (h : Square R) (w : Words) (K : Consts F R n)
    (x : Fin 3 → Mat F n n) (i0 i1 i2 j0 j1 j2 k0 k1 k2 : BitVec 32) (row : Mat F 1 45) : Mat F 1 45 :=
  putStats hI h w (manhK w K x) k0 k1 k2 (putStats hI h w (euclK w K x) j0 j1 j2 (putStats hI h w (chebK w K x) i0 i1 i2 row))

/-- The words of box size 3. -/
abbrev w3 : Words := ⟨0x40400000#32, 0x41100000#32, 0x45AFC800#32⟩
/-- The words of box size 5. -/
abbrev w5 : Words := ⟨0x40A00000#32, 0x41C80000#32, 0x44FD2000#32⟩
/-- The words of box size 7. -/
abbrev w7 : Words := ⟨0x40E00000#32, 0x42440000#32, 0x44800000#32⟩
/-- The words of box size 9. -/
abbrev w9 : Words := ⟨0x41100000#32, 0x42A20000#32, 0x441C4000#32⟩
/-- The words of box size 11. -/
abbrev w11 : Words := ⟨0x41300000#32, 0x42F20000#32, 0x43DC8000#32⟩

/-- The shape facts of the five box sizes and of the row. -/
structure Sides : Prop where
  /-- The lanes of a row. -/
  io : (⟨2, ![1, 45]⟩ : Shape).Iotas .tc 32 [1]
  /-- Box size 3. -/
  s3 : Square 75
  /-- Box size 5. -/
  s5 : Square 45
  /-- Box size 7. -/
  s7 : Square 32
  /-- Box size 9. -/
  s9 : Square 25
  /-- Box size 11. -/
  s11 : Square 21

/-- One image's row: the nine statistics of each of the five box sizes, added lane by lane to a row of zeros. -/
def row (h : Sides) (K3 : Consts F 75 224) (K5 : Consts F 45 224) (K7 : Consts F 32 224) (K9 : Consts F 25 224)
    (K11 : Consts F 21 224) (x : Fin 3 → Mat F 224 224) : Mat F 1 45 :=
  putBox h.io h.s11 w11 K11 x 12#32 13#32 14#32 27#32 28#32 29#32 42#32 43#32 44#32
    (putBox h.io h.s9 w9 K9 x 9#32 10#32 11#32 24#32 25#32 26#32 39#32 40#32 41#32
      (putBox h.io h.s7 w7 K7 x 6#32 7#32 8#32 21#32 22#32 23#32 36#32 37#32 38#32
        (putBox h.io h.s5 w5 K5 x 3#32 4#32 5#32 18#32 19#32 20#32 33#32 34#32 35#32
          (putBox h.io h.s3 w3 K3 x 0#32 1#32 2#32 15#32 16#32 17#32 30#32 31#32 32#32
            (broadcast _ (word 0x00000000#32))))))

end Cert.Boxes

end
-- ==== Proof.RowBody.lean ====
/-
  The kernel body's result, block by block: its eight rows are the row of `RowDef.lean`, one per image.
-/
module

public import proofs.«01_k».proof.Proof.Gen.KernelIdeal.Frame
public import proofs.«01_k».proof.Proof.RowDef

@[expose] public section

set_option maxRecDepth 100000

noncomputable section

namespace Cert.Boxes

open Cert.KernelIdeal Cert.KernelIdeal.Gen Idealize.ShloMosaic

variable {F : FTy → Type} [FloatOps F]

/-- The shape facts of the printed program. -/
theorem sides : Sides where
  io := iota_S1x45_d1_w32
  s3 := ⟨shapeCasts_S75x75_S1x75x75, reduces_S1x75x75_S1, shapeCasts_S1_S1x1x1, inpos_S1x1x1_p0_0_0⟩
  s5 := ⟨shapeCasts_S45x45_S1x45x45, reduces_S1x45x45_S1, shapeCasts_S1_S1x1x1, inpos_S1x1x1_p0_0_0⟩
  s7 := ⟨shapeCasts_S32x32_S1x32x32, reduces_S1x32x32_S1, shapeCasts_S1_S1x1x1, inpos_S1x1x1_p0_0_0⟩
  s9 := ⟨shapeCasts_S25x25_S1x25x25, reduces_S1x25x25_S1, shapeCasts_S1_S1x1x1, inpos_S1x1x1_p0_0_0⟩
  s11 := ⟨shapeCasts_S21x21_S1x21x21, reduces_S1x21x21_S1, shapeCasts_S1_S1x1x1, inpos_S1x1x1_p0_0_0⟩

/-- One image's channels out of three loaded ones. -/
def channels (a b c : Vec F S1x1x224x224 .f32) : Fin 3 → Mat F 224 224 :=
  ![shapeCast S224x224 a shapeCasts_S1x1x224x224_S224x224, shapeCast S224x224 b shapeCasts_S1x1x224x224_S224x224,
    shapeCast S224x224 c shapeCasts_S1x1x224x224_S224x224]

variable (x0 : Vec F S8x3x224x224 .f32) (x1 x2 : Vec F S75x224 .f32) (x3 : Vec F S75x75 .f32)
  (x4 x5 : Vec F S45x224 .f32) (x6 : Vec F S45x45 .f32) (x7 x8 : Vec F S32x224 .f32) (x9 : Vec F S32x32 .f32)
  (x10 x11 : Vec F S25x224 .f32) (x12 : Vec F S25x25 .f32) (x13 x14 : Vec F S21x224 .f32) (x15 : Vec F S21x21 .f32)

/-- The row of the image whose channels are `a`, `b`, `c`, from the loaded constants. -/
def rowOf (a b c : Vec F S1x1x224x224 .f32) : Mat F 1 45 :=
  row sides ⟨View.ld x1 r0_3, View.ld x2 r0_3, View.ld x3 r0_8⟩ ⟨View.ld x4 r0_4, View.ld x5 r0_4, View.ld x6 r0_9⟩
    ⟨View.ld x7 r0_5, View.ld x8 r0_5, View.ld x9 r0_10⟩ ⟨View.ld x10 r0_6, View.ld x11 r0_6, View.ld x12 r0_11⟩
    ⟨View.ld x13 r0_7, View.ld x14 r0_7, View.ld x15 r0_12⟩ (channels a b c)

/-- What the body leaves in the result's buffer: eight rows, one per image of the block. -/
theorem out_eq : out0_16 x0 x1 x2 x3 x4 x5 x6 x7 x8 x9 x10 x11 x12 x13 x14 x15 =
    View.canon [⟨r0_34, shapeCast S1x8x45 (concatenate S8x45 0 [⟨S1x45, rowOf x1 x2 x3 x4 x5 x6 x7 x8 x9 x10 x11 x12 x13 x14 x15 (View.ld x0 r0_0) (View.ld x0 r0_1) (View.ld x0 r0_2)⟩,
      ⟨S1x45, rowOf x1 x2 x3 x4 x5 x6 x7 x8 x9 x10 x11 x12 x13 x14 x15 (View.ld x0 r0_13) (View.ld x0 r0_14) (View.ld x0 r0_15)⟩,
      ⟨S1x45, rowOf x1 x2 x3 x4 x5 x6 x7 x8 x9 x10 x11 x12 x13 x14 x15 (View.ld x0 r0_16) (View.ld x0 r0_17) (View.ld x0 r0_18)⟩,
      ⟨S1x45, rowOf x1 x2 x3 x4 x5 x6 x7 x8 x9 x10 x11 x12 x13 x14 x15 (View.ld x0 r0_19) (View.ld x0 r0_20) (View.ld x0 r0_21)⟩,
      ⟨S1x45, rowOf x1 x2 x3 x4 x5 x6 x7 x8 x9 x10 x11 x12 x13 x14 x15 (View.ld x0 r0_22) (View.ld x0 r0_23) (View.ld x0 r0_24)⟩,
      ⟨S1x45, rowOf x1 x2 x3 x4 x5 x6 x7 x8 x9 x10 x11 x12 x13 x14 x15 (View.ld x0 r0_25) (View.ld x0 r0_26) (View.ld x0 r0_27)⟩,
      ⟨S1x45, rowOf x1 x2 x3 x4 x5 x6 x7 x8 x9 x10 x11 x12 x13 x14 x15 (View.ld x0 r0_28) (View.ld x0 r0_29) (View.ld x0 r0_30)⟩,
      ⟨S1x45, rowOf x1 x2 x3 x4 x5 x6 x7 x8 x9 x10 x11 x12 x13 x14 x15 (View.ld x0 r0_31) (View.ld x0 r0_32) (View.ld x0 r0_33)⟩]
      concatenates_S1x45_S1x45_S1x45_S1x45_S1x45_S1x45_S1x45_S1x45_S8x45_d0) shapeCasts_S8x45_S1x8x45⟩] := rfl

end Cert.Boxes

end
-- ==== Proof.Tiles.lean ====
/-
  Sums over the patches of a padded square: every pixel lies in one patch, and a patch's sum is the sum over its real
  pixels plus a constant for each padded one.
-/
module

public import Mathlib.Data.Real.Basic
public import Mathlib.Algebra.BigOperators.Fin
public import Mathlib.Algebra.BigOperators.Ring.Finset
public import Mathlib.Algebra.Order.BigOperators.Group.Finset
public import Mathlib.Tactic.Ring
public import Mathlib.Tactic.Push

@[expose] public section

namespace Cert.Boxes

open scoped BigOperators

/-- Position `u` of patch `i` is a real pixel of a line of `H` pixels with `t` padded ones before it. -/
abbrev Real? (b t H i u : ℕ) : Prop := t ≤ i * b + u ∧ i * b + u < H + t

/-- A sum over the positions of a patch, the padded ones left out, is the sum over the pixels that lie in the patch. -/
theorem sum_patch {M : Type*} [AddCommMonoid M] {b : ℕ} (t H i : ℕ) (hb : 0 < b) (f : ℕ → M) :
    (∑ u : Fin b, if Real? b t H i u then f (i * b + u - t) else 0) = ∑ p : Fin H, if (p.val + t) / b = i then f p else 0 := by
  rw [Fin.sum_univ_eq_sum_range (fun u => if Real? b t H i u then f (i * b + u - t) else 0) b,
    Fin.sum_univ_eq_sum_range (fun p => if (p + t) / b = i then f p else 0) H, ← Finset.sum_filter, ← Finset.sum_filter]
  refine Finset.sum_nbij' (fun u => i * b + u - t) (fun p => p + t - i * b) ?_ ?_ ?_ ?_ ?_
  · intro u hu
    simp only [Finset.mem_filter, Finset.mem_range] at hu ⊢
    obtain ⟨h1, h2, h3⟩ := hu
    refine ⟨by omega, ?_⟩
    rw [Nat.sub_add_cancel h2, Nat.add_comm, Nat.add_mul_div_right _ _ hb, Nat.div_eq_of_lt h1, Nat.zero_add]
  · intro p hp
    simp only [Finset.mem_filter, Finset.mem_range] at hp ⊢
    obtain ⟨h1, h2⟩ := hp
    have h3 := Nat.div_add_mod (p + t) b
    have h4 := Nat.mod_lt (p + t) hb
    rw [h2, Nat.mul_comm] at h3
    exact ⟨by omega, by omega, by omega⟩
  · intro u hu
    simp only [Finset.mem_filter, Finset.mem_range] at hu
    omega
  · intro p hp
    simp only [Finset.mem_filter, Finset.mem_range] at hp
    obtain ⟨h1, h2⟩ := hp
    have h3 := Nat.div_add_mod (p + t) b
    rw [h2, Nat.mul_comm] at h3
    omega
  · intro u _
    rfl

/-- The count of a patch: `β` at its real pixels and `π` at each padded one. -/
def count (b t H : ℕ) (β : ℕ → ℕ → ℕ) (π i j : ℕ) : ℕ :=
  ∑ u : Fin b, ∑ v : Fin b, if Real? b t H i u ∧ Real? b t H j v then β (i * b + u - t) (j * b + v - t) else π

/-- The number of real pixels of patch `i` on a line. -/
def real (b t H i : ℕ) : ℕ := ∑ p : Fin H, if (p.val + t) / b = i then 1 else 0

/-- The count over the real pixels of a patch. -/
def core (b t H : ℕ) (β : ℕ → ℕ → ℕ) (i j : ℕ) : ℕ :=
  ∑ p : Fin H, ∑ q : Fin H, if (p.val + t) / b = i ∧ (q.val + t) / b = j then β p q else 0

/-- A patch's count is its count over the real pixels plus `π` for each of the others. -/
theorem count_eq {b : ℕ} (t H : ℕ) (hb : 0 < b) (β : ℕ → ℕ → ℕ) (π i j : ℕ) :
    (count b t H β π i j : ℝ) = core b t H β i j + ((b : ℝ) * b - real b t H i * real b t H j) * π := by
  have hr : ∀ k, (real b t H k : ℝ) = ∑ u : Fin b, if Real? b t H k u then (1 : ℝ) else 0 := fun k => by
    rw [sum_patch t H k hb fun _ => (1 : ℝ)]; unfold real; push_cast; rfl
  have hc : (core b t H β i j : ℝ) = ∑ u : Fin b, ∑ v : Fin b,
      if Real? b t H i u then (if Real? b t H j v then (β (i * b + u - t) (j * b + v - t) : ℝ) else 0) else 0 := by
    have h1 : ∀ u : Fin b, (∑ v : Fin b,
        if Real? b t H i u then (if Real? b t H j v then (β (i * b + u - t) (j * b + v - t) : ℝ) else 0) else 0) =
        if Real? b t H i u then (∑ q : Fin H, if (q.val + t) / b = j then (β (i * b + u - t) q : ℝ) else 0) else 0 := fun u => by
      by_cases h : Real? b t H i u
      · simp only [if_pos h]
        exact sum_patch t H j hb fun q => (β (i * b + u - t) q : ℝ)
      · simp only [if_neg h, Finset.sum_const_zero]
    rw [Finset.sum_congr rfl fun u _ => h1 u,
      sum_patch t H i hb fun p => ∑ q : Fin H, if (q.val + t) / b = j then (β p q : ℝ) else 0]
    unfold core
    push_cast
    refine Finset.sum_congr rfl fun p _ => ?_
    by_cases h : (p.val + t) / b = i
    · simp only [h, true_and, if_true]
    · simp only [h, false_and, if_false, Finset.sum_const_zero]
  have hk : (b : ℝ) * b = ∑ _u : Fin b, ∑ _v : Fin b, (1 : ℝ) := by simp
  rw [hc, hr, hr, hk, Finset.sum_mul_sum, ← Finset.sum_sub_distrib, Finset.sum_mul, ← Finset.sum_add_distrib]
  unfold count
  push_cast
  refine Finset.sum_congr rfl fun u _ => ?_
  rw [← Finset.sum_sub_distrib, Finset.sum_mul, ← Finset.sum_add_distrib]
  refine Finset.sum_congr rfl fun v _ => ?_
  by_cases h1 : Real? b t H i u
  · by_cases h2 : Real? b t H j v
    · simp only [if_pos h1, if_pos h2, if_pos (And.intro h1 h2)]; ring
    · simp only [if_pos h1, if_neg h2, if_neg fun h : _ ∧ _ => h2 h.2]; ring
  · simp only [if_neg h1, if_neg fun h : _ ∧ _ => h1 h.1]; ring

/-- A count of zeros and ones is at most the number of pixels of a patch. -/
theorem count_le {b : ℕ} (t H : ℕ) {β : ℕ → ℕ → ℕ} {π : ℕ} (hβ : ∀ p q, β p q ≤ 1) (hπ : π ≤ 1) (i j : ℕ) :
    count b t H β π i j ≤ b * b := by
  unfold count
  calc _ ≤ ∑ _u : Fin b, ∑ _v : Fin b, 1 :=
        Finset.sum_le_sum fun u _ => Finset.sum_le_sum fun v _ => by split <;> [exact hβ _ _; exact hπ]
    _ = b * b := by simp

end Cert.Boxes
-- ==== Proof.Stats.lean ====
/-
  The three statistics of a family of counts, over the extended reals: from the counts directly, and from the
  normalised histogram of the counts that are below the cap. The two agree, a family with no count below the cap
  included (both sides then read the quotient 0/0).
-/
module

public import Idealize.ShloMosaic.PureOps.Ideal
public import Mathlib.Algebra.BigOperators.Fin
public import Mathlib.Tactic.FieldSimp

@[expose] public section

noncomputable section

namespace Cert.Boxes

open Idealize.ShloMosaic
open scoped BigOperators

/-- The cast of a finite sum of reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A quotient by a real other than zero is a product with its inverse. -/
theorem div_coe_right (x : EReal) {y : ℝ} (hy : y ≠ 0) : Ideal.div x (y : EReal) = x * ((y⁻¹ : ℝ) : EReal) := by
  unfold Ideal.div
  rw [if_neg (by exact_mod_cast hy), EReal.coe_inv]

/-- A quotient of reals. -/
theorem div_coe (x : ℝ) {y : ℝ} (hy : y ≠ 0) : Ideal.div (x : EReal) (y : EReal) = ((x / y : ℝ) : EReal) := by
  rw [div_coe_right _ hy, ← EReal.coe_mul, div_eq_mul_inv]

/-- The quotient 0/0. -/
theorem div_zero_zero : Ideal.div 0 0 = ⊥ := by unfold Ideal.div; simp

/-- A sum with a summand `⊥` everywhere. -/
theorem sum_bot {L : ℕ} (hL : 0 < L) : (∑ _k : Fin L, (⊥ : EReal)) = ⊥ := by
  obtain ⟨n, rfl⟩ : ∃ n, L = n + 1 := ⟨L - 1, by omega⟩
  rw [Fin.sum_univ_succ, EReal.bot_add]

variable {ι : Type*} [Fintype ι]

/-- The sum of `w` over the counts below the cap. -/
def below (L : ℕ) (c : ι → ℕ) (w : ℕ → ℝ) : EReal := ∑ p, if c p < L then (w (c p) : EReal) else 0

/-- The mean of `w` over the counts below the cap. -/
def mean (L : ℕ) (c : ι → ℕ) (w : ℕ → ℝ) : EReal := Ideal.div (below L c w) (below L c fun _ => 1)

/-- The first statistic: the mean of the inverse count plus one. -/
def fd (L : ℕ) (c : ι → ℕ) : EReal := mean L c fun k => ((k : ℝ) + 1)⁻¹

/-- The square of the mean count plus one. -/
def mu1sq (L : ℕ) (c : ι → ℕ) : EReal := mean L c (fun k => (k : ℝ) + 1) * mean L c (fun k => (k : ℝ) + 1)

/-- The second statistic. -/
def lac (L : ℕ) (c : ι → ℕ) : EReal :=
  Ideal.div (mean L c (fun k => ((k : ℝ) + 1) * ((k : ℝ) + 1)) - mu1sq L c) (mu1sq L c)

/-- The third statistic: the share of the counts whose quotient by the cap is at least the threshold. -/
def pq (L P : ℕ) (θ : EReal) (c : ι → ℕ) : EReal :=
  Ideal.div (∑ p, if θ ≤ Ideal.div ((c p : ℝ) : EReal) ((L : ℝ) : EReal) then (1 : EReal) else 0) ((P : ℝ) : EReal)

/-- The histogram of the counts below the cap. -/
def hist (L : ℕ) (c : ι → ℕ) (k : ℕ) : EReal := ∑ p, if min (c p) (L - 1) = k then (if c p < L then (1 : EReal) else 0) else 0

/-- The histogram divided by the number of counts. -/
def share (L P : ℕ) (c : ι → ℕ) (k : ℕ) : EReal := Ideal.div (hist L c k) ((P : ℝ) : EReal)

/-- The shares divided by their sum. -/
def prob (L P : ℕ) (c : ι → ℕ) (k : ℕ) : EReal := Ideal.div (share L P c k) (∑ l : Fin L, share L P c l)

/-- The number of counts equal to `k`, as a real. -/
def num (c : ι → ℕ) (k : ℕ) : ℝ := ∑ p, if c p = k then 1 else 0

omit [Fintype ι] in
/-- Below the cap the histogram's test is equality. -/
theorem test_iff {L k : ℕ} (hk : k < L) (c : ι → ℕ) (p : ι) : (min (c p) (L - 1) = k ∧ c p < L) ↔ c p = k := by omega

/-- An entry of the histogram counts the counts equal to it. -/
theorem hist_eq {L k : ℕ} (hk : k < L) (c : ι → ℕ) : hist L c k = (num c k : EReal) := by
  unfold hist num
  rw [coe_sum]
  refine Finset.sum_congr rfl fun p _ => ?_
  have h := test_iff hk c p
  by_cases h1 : c p = k
  · rw [if_pos (h.mpr h1).1, if_pos (h.mpr h1).2, if_pos h1]; rfl
  · rw [if_neg h1]
    by_cases h2 : min (c p) (L - 1) = k
    · rw [if_pos h2, if_neg fun h3 => h1 (h.mp ⟨h2, h3⟩)]; rfl
    · rw [if_neg h2]; rfl

/-- A weighted sum of the histogram is the sum of the weights over the counts below the cap. -/
theorem sum_num (L : ℕ) (c : ι → ℕ) (w : ℕ → ℝ) :
    ∑ k : Fin L, num c k * w k = ∑ p, if c p < L then w (c p) else 0 := by
  unfold num
  simp only [Finset.sum_mul, ite_mul, one_mul, zero_mul]
  rw [Finset.sum_comm]
  refine Finset.sum_congr rfl fun p _ => ?_
  by_cases h : c p < L
  · rw [if_pos h, Finset.sum_eq_single (⟨c p, h⟩ : Fin L)]
    · simp
    · intro k _ hk
      exact if_neg fun e => hk (Fin.ext e.symm)
    · intro h'; exact absurd (Finset.mem_univ _) h'
  · rw [if_neg h]
    exact Finset.sum_eq_zero fun k _ => if_neg fun e => h (by have := k.isLt; omega)

/-- The sum of `w` over the counts below the cap is a real. -/
theorem below_eq (L : ℕ) (c : ι → ℕ) (w : ℕ → ℝ) : below L c w = ((∑ k : Fin L, num c k * w k : ℝ) : EReal) := by
  rw [sum_num, coe_sum]
  unfold below
  refine Finset.sum_congr rfl fun p _ => ?_
  split <;> rfl

theorem num_nonneg (c : ι → ℕ) (k : ℕ) : 0 ≤ num c k := Finset.sum_nonneg fun p _ => by split <;> norm_num

/-- The sum of the normalised histogram times a weight is the mean of the weight over the counts below the cap. -/
theorem sum_prob {L P : ℕ} (hL : 0 < L) (hP : 0 < P) (c : ι → ℕ) (w : ℕ → ℝ) (hw : ∀ k, 0 < w k) :
    ∑ k : Fin L, prob L P c k * (w k : EReal) = mean L c w := by
  have hP' : (P : ℝ) ≠ 0 := by exact_mod_cast hP.ne'
  have hs : ∀ k : Fin L, share L P c k = ((num c k / P : ℝ) : EReal) := fun k => by
    unfold share; rw [hist_eq k.isLt, div_coe _ hP']
  have hT : (∑ l : Fin L, share L P c l) = (((∑ l : Fin L, num c l) / P : ℝ) : EReal) := by
    rw [Finset.sum_congr rfl fun l _ => hs l, ← coe_sum, Finset.sum_div]
  have hb : below L c (fun _ => 1) = ((∑ l : Fin L, num c l : ℝ) : EReal) := by rw [below_eq]; simp
  unfold mean
  rw [below_eq, hb]
  by_cases h0 : (∑ l : Fin L, num c l) = 0
  · have hz : ∀ k : Fin L, num c k = 0 := fun k =>
      (Finset.sum_eq_zero_iff_of_nonneg fun (l : Fin L) _ => num_nonneg c l).mp h0 k (Finset.mem_univ _)
    have hp : ∀ k : Fin L, prob L P c k * (w k : EReal) = ⊥ := fun k => by
      unfold prob
      rw [hT, hs, h0, hz]
      simp only [zero_div, EReal.coe_zero, div_zero_zero]
      exact EReal.bot_mul_coe_of_pos (hw k)
    rw [Finset.sum_congr rfl fun k _ => hp k, sum_bot hL, h0]
    simp only [hz, zero_mul, Finset.sum_const_zero, EReal.coe_zero, div_zero_zero]
  · have hp : ∀ k : Fin L, prob L P c k * (w k : EReal) = ((num c k * w k / (∑ l : Fin L, num c l) : ℝ) : EReal) := fun k => by
      unfold prob
      rw [hT, hs, div_coe _ (div_ne_zero h0 hP'), ← EReal.coe_mul]
      congr 1
      field_simp
    rw [Finset.sum_congr rfl fun k _ => hp k, ← coe_sum, div_coe _ h0, Finset.sum_div]

/-- The first statistic from the normalised histogram. -/
theorem fd_of_prob {L P : ℕ} (hL : 0 < L) (hP : 0 < P) (c : ι → ℕ) :
    ∑ k : Fin L, Ideal.div (prob L P c k) (((k : ℝ) + 1 : ℝ) : EReal) = fd L c := by
  unfold fd
  rw [← sum_prob hL hP c _ fun k => by positivity]
  refine Finset.sum_congr rfl fun k _ => ?_
  exact div_coe_right _ (by positivity)

end Cert.Boxes

end
-- ==== Proof.Spec.lean ====
/-
  The mathematics both programs compute: for an image and a box size, the number of pixels of each patch that are close
  to the patch's centre, in three distances.
-/
module

public import proofs.«01_k».proof.Proof.Tiles
public import proofs.«01_k».proof.Proof.Stats

@[expose] public section

noncomputable section

namespace Cert.Boxes

open Idealize.ShloMosaic
open scoped BigOperators

/-- A pixel: three channels. -/
abbrev Pixel : Type := Fin 3 → EReal

/-- An image: a value at every channel, row and column. -/
abbrev Image : Type := Fin 3 → ℕ → ℕ → EReal

/-- The absolute value. -/
def mag (a : EReal) : EReal := max a (-a)

/-- The largest channel distance is at most the box size. -/
def cheb (b : ℕ) (v c : Pixel) : ℕ :=
  if max (max (mag (v 0 - c 0)) (mag (v 1 - c 1))) (mag (v 2 - c 2)) ≤ ((b : ℝ) : EReal) then 1 else 0

/-- The pixel's own squared norm is at most the box size's square. -/
def eucl (b : ℕ) (v _c : Pixel) : ℕ := if v 0 * v 0 + v 1 * v 1 + v 2 * v 2 ≤ ((b : ℝ) : EReal) * ((b : ℝ) : EReal) then 1 else 0

/-- The sum of the channel distances is at most the box size. -/
def manh (b : ℕ) (v c : Pixel) : ℕ :=
  if mag (v 0 - c 0) + mag (v 1 - c 1) + mag (v 2 - c 2) ≤ ((b : ℝ) : EReal) then 1 else 0

/-- The test of a distance: maximum, squared norm, sum. -/
def near (d : Fin 3) : ℕ → Pixel → Pixel → ℕ := match d with | 0 => cheb | 1 => eucl | 2 => manh

theorem near_le (d : Fin 3) (b : ℕ) (v c : Pixel) : near d b v c ≤ 1 := by
  match d with
  | 0 => show cheb b v c ≤ 1; unfold cheb; split <;> simp
  | 1 => show eucl b v c ≤ 1; unfold eucl; split <;> simp
  | 2 => show manh b v c ≤ 1; unfold manh; split <;> simp

/-- The pixel of an image at a row and a column. -/
def at_ (x : Image) (p q : ℕ) : Pixel := fun c => x c p q

/-- The row, or column, of the centre of a patch. -/
def mid (b t i : ℕ) : ℕ := i * b + (b - 1) / 2 - t

/-- The number of pixels of patch `(i, j)` that pass the test of distance `d`, padded ones as zeros. -/
def near_count (d : Fin 3) (b t H : ℕ) (x : Image) (i j : ℕ) : ℕ :=
  count b t H (fun p q => near d b (at_ x p q) (at_ x (mid b t i) (mid b t j))) (near d b 0 (at_ x (mid b t i) (mid b t j))) i j

/-- The counts of all patches. -/
def counts (d : Fin 3) (b t R H : ℕ) (x : Image) : Fin R × Fin R → ℕ := fun p => near_count d b t H x p.1 p.2

theorem counts_le (d : Fin 3) (b t R H : ℕ) (x : Image) (p : Fin R × Fin R) : counts d b t R H x p ≤ b * b :=
  count_le t H (fun _ _ => near_le _ _ _ _) (near_le _ _ _ _) _ _

/-- The threshold of the third statistic. -/
def threshold : EReal := Ideal.ofBits .f32 0x3F17BE77#32

/-- The statistic `k` of an image at a distance and a box size. -/
def feature (d : Fin 3) (b t R H : ℕ) (k : Fin 3) (x : Image) : EReal :=
  match k with
  | 0 => fd (b * b) (counts d b t R H x)
  | 1 => lac (b * b) (counts d b t R H x)
  | 2 => pq (b * b) (R * R) threshold (counts d b t R H x)

end Cert.Boxes

end
-- ==== Proof.RowRead.lean ====
/-
  The kernel's operations of `RowDef.lean` at the ideal values, read entry by entry: products with the constant matrices
  pick centres, spread them and sum over patches; the matrices of counts are the counts of `Spec.lean`.
-/
module

public import proofs.«01_k».proof.Proof.RowDef
public import proofs.«01_k».proof.Proof.Spec
public import Idealize.ShloMosaic.Lib.ValueIdx
public import Idealize.ShloMosaic.Lib.ValueLayout
public import Idealize.ShloMosaic.Lib.IdealHost

@[expose] public section

set_option maxRecDepth 16384

noncomputable section

namespace Cert.Boxes

open Idealize.ShloMosaic Idealize.ShloMosaic.ValueIdx
open scoped BigOperators

variable {R m k n : ℕ}

/-! ## Products and sums -/

/-- A product at an entry. -/
theorem mul_at (A : Mat Ideal m k) (B : Mat Ideal k n) (r : Fin m) (c : Fin n) :
    mul A B (ix2 r c) = ∑ l : Fin k, A (ix2 r l) * B (ix2 l c) := by
  unfold mul
  rw [Ideal.matmul_plain_apply, constant_apply, Ideal.ofBits_zero_f32, zero_add]

/-- A product with a transposed right factor at an entry. -/
theorem mulT_at (A : Mat Ideal m k) (B : Mat Ideal n k) (r : Fin m) (c : Fin n) :
    mulT A B (ix2 r c) = ∑ l : Fin k, A (ix2 r l) * B (ix2 c l) := by
  unfold mulT
  rw [Ideal.matmul_transposedRhs_apply, constant_apply, Ideal.ofBits_zero_f32, zero_add]

/-- A product with a transposed left factor at an entry. -/
theorem tMul_at (A : Mat Ideal m k) (B : Mat Ideal m n) (r : Fin k) (c : Fin n) :
    tMul A B (ix2 r c) = ∑ l : Fin m, A (ix2 l r) * B (ix2 l c) := by
  unfold tMul
  rw [Ideal.matmul_constant_zero_apply, ← Equiv.sum_comp (contrEquiv1 (firstAxes m k n) m rfl rfl).symm]
  refine Finset.sum_congr rfl fun l _ => ?_
  have hl := contrEquiv1_symm_val (firstAxes m k n) m rfl rfl l
  have el : (firstAxes m k n).lhsIdx (ix2 r c) ((contrEquiv1 (firstAxes m k n) m rfl rfl).symm l) = ix2 l r := by
    funext a; apply Fin.ext
    match a with
    | ⟨0, _⟩ => exact hl
    | ⟨1, _⟩ => rfl
  have er : (firstAxes m k n).rhsIdx (ix2 r c) ((contrEquiv1 (firstAxes m k n) m rfl rfl).symm l) = ix2 l c := by
    funext a; apply Fin.ext
    match a with
    | ⟨0, _⟩ => exact hl
    | ⟨1, _⟩ => rfl
  rw [el, er]

/-- The sum of all entries of a matrix, over the pairs of its indices. -/
theorem total_at (h : Square R) (A : Mat Ideal R R) : total h A = ∑ p : Fin R × Fin R, A (ix2 p.1 p.2) := by
  unfold total extractAt shapeCast
  refine (Ideal.multiReduction_add_total _ _ h.red (by intro b; fin_cases b; rfl) _ _ _).trans ?_
  rw [Equiv.sum_comp (Shape.reshapeEquiv h.cast) A, sum_idx2, Fintype.sum_prod_type]

/-- A one-hot row picks one summand. -/
theorem pick {n a : ℕ} (h : a < n) (f : Fin n → EReal) : ∑ p : Fin n, (if p.val = a then (1 : EReal) else 0) * f p = f ⟨a, h⟩ := by
  rw [Finset.sum_eq_single ⟨a, h⟩]
  · simp
  · intro p _ hp
    rw [if_neg fun e => hp (Fin.ext e), zero_mul]
  · intro hp; exact absurd (Finset.mem_univ _) hp

/-- The same with the factors swapped. -/
theorem pick' {n a : ℕ} (h : a < n) (f : Fin n → EReal) : ∑ p : Fin n, f p * (if p.val = a then (1 : EReal) else 0) = f ⟨a, h⟩ := by
  rw [← pick h f]; exact Finset.sum_congr rfl fun p _ => mul_comm _ _

/-! ## Comparisons as zeros and ones -/

/-- A decided bit as a float. -/
theorem bit_float (q : Prop) [Decidable q] : (FloatOps.sitofp .f32 (BitVec.setWidth 32 (BitVec.ofBool (decide q))) : Ideal .f32) =
    if q then 1 else 0 := by
  show ((BitVec.toInt (BitVec.setWidth 32 (BitVec.ofBool (decide q))) : ℝ) : EReal) = _
  by_cases h : q <;> simp [h]

theorem bits_le (A B : Mat Ideal m n) (i : Fin m) (j : Fin n) :
    bits (F := Ideal) (cmpf .ole A B) (ix2 i j) = if (A (ix2 i j) ≤ B (ix2 i j) : Prop) then (1 : EReal) else 0 := bit_float _

theorem bits_lt (A B : Mat Ideal m n) (i : Fin m) (j : Fin n) :
    bits (F := Ideal) (cmpf .olt A B) (ix2 i j) = if (A (ix2 i j) < B (ix2 i j) : Prop) then (1 : EReal) else 0 := bit_float _

theorem bits_ge (A B : Mat Ideal m n) (i : Fin m) (j : Fin n) :
    bits (F := Ideal) (cmpf .oge A B) (ix2 i j) = if (B (ix2 i j) ≤ A (ix2 i j) : Prop) then (1 : EReal) else 0 := bit_float _

/-- A zero or one through the naturals. -/
theorem ite_cast (q : Prop) [Decidable q] : (if q then (1 : EReal) else 0) = (((if q then 1 else 0 : ℕ) : ℝ) : EReal) := by
  split <;> simp

theorem maxLe_at (a0 a1 a2 : Mat Ideal m n) (v : EReal) (i : Fin m) (j : Fin n) : maxLe (F := Ideal) a0 a1 a2 v (ix2 i j) =
    (((if max (max (a0 (ix2 i j)) (a1 (ix2 i j))) (a2 (ix2 i j)) ≤ v then 1 else 0 : ℕ) : ℝ) : EReal) :=
  (bits_le _ _ i j).trans (ite_cast _)

theorem sumLe_at (a0 a1 a2 : Mat Ideal m n) (v : EReal) (i : Fin m) (j : Fin n) : sumLe (F := Ideal) a0 a1 a2 v (ix2 i j) =
    (((if a0 (ix2 i j) + a1 (ix2 i j) + a2 (ix2 i j) ≤ v then 1 else 0 : ℕ) : ℝ) : EReal) :=
  (bits_le _ _ i j).trans (ite_cast _)

/-! ## The constants of a box size -/

/-- What the constant matrices of box size `b` hold, `t` padded pixels before a line. -/
structure Good (b t R n : ℕ) (K : Consts Ideal R n) : Prop where
  /-- The box is not empty. -/
  pos : 0 < b
  /-- Every pixel lies in a patch. -/
  row : ∀ p, p < n → (p + t) / b < R
  /-- Every centre is a pixel. -/
  cen : ∀ i, i < R → mid b t i < n
  /-- The centre rows. -/
  G : ∀ (i : Fin R) (p : Fin n), K.G (ix2 i p) = if p.val = mid b t i then 1 else 0
  /-- The patch rows. -/
  S : ∀ (i : Fin R) (p : Fin n), K.S (ix2 i p) = if (p.val + t) / b = i.val then 1 else 0
  /-- The padded pixels. -/
  N : ∀ i j : Fin R, K.N (ix2 i j) = (((b : ℝ) * b - real b t n i * real b t n j : ℝ) : EReal)

/-- What the words of a box size denote. -/
structure GoodWords (b R : ℕ) (w : Words) : Prop where
  box : Ideal.ofBits .f32 w.box = ((b : ℝ) : EReal)
  cap : Ideal.ofBits .f32 w.cap = (((b * b : ℕ) : ℝ) : EReal)
  num : Ideal.ofBits .f32 w.num = (((R * R : ℕ) : ℝ) : EReal)
  half : Ideal.ofBits .f32 0x3F000000#32 = ((1 / 2 : ℝ) : EReal)

variable {b t : ℕ} {K : Consts Ideal R n} {w : Words} {x : Image}

/-- The patch of a pixel. -/
def Good.patch (hK : Good b t R n K) (p : Fin n) : Fin R := ⟨(p.val + t) / b, hK.row p p.isLt⟩

/-- The centre of a patch. -/
theorem centres_at (hK : Good b t R n K) (A : Mat Ideal n n) (i j : Fin R) :
    centres K.G A (ix2 i j) = A (ix2 ⟨mid b t i, hK.cen i i.isLt⟩ ⟨mid b t j, hK.cen j j.isLt⟩) := by
  unfold centres
  rw [mulT_at]
  simp only [mul_at, hK.G]
  rw [pick' (hK.cen j j.isLt), pick (hK.cen i i.isLt)]

/-- Each pixel gets its patch's entry. -/
theorem spread_at (hK : Good b t R n K) (u : Mat Ideal R R) (p q : Fin n) :
    spread K.S u (ix2 p q) = u (ix2 (hK.patch p) (hK.patch q)) := by
  unfold spread
  rw [tMul_at]
  simp only [mul_at, hK.S, eq_comm (a := (_ + t) / b)]
  rw [pick (hK.row p p.isLt), pick' (hK.row q q.isLt)]
  rfl

/-- The core of a patch depends on the map at the patch's pixels. -/
theorem core_congr {b t H i j : ℕ} {β γ : ℕ → ℕ → ℕ} (h : ∀ p q, p < H → q < H → (p + t) / b = i → (q + t) / b = j → β p q = γ p q) :
    core b t H β i j = core b t H γ i j :=
  Finset.sum_congr rfl fun p _ => Finset.sum_congr rfl fun q _ => by
    by_cases hc : (p.val + t) / b = i ∧ (q.val + t) / b = j
    · rw [if_pos hc, if_pos hc, h p q p.isLt q.isLt hc.1 hc.2]
    · rw [if_neg hc, if_neg hc]

/-- The sum of a map of naturals over a patch. -/
theorem gather_at (hK : Good b t R n K) (y : Mat Ideal n n) (β : ℕ → ℕ → ℕ)
    (hy : ∀ p q : Fin n, y (ix2 p q) = ((β p q : ℝ) : EReal)) (i j : Fin R) :
    gather K.S y (ix2 i j) = ((core b t n β i j : ℝ) : EReal) := by
  have h1 : ∀ (q : Prop) [Decidable q], (if q then (1 : EReal) else 0) = (((if q then 1 else 0 : ℝ)) : EReal) := fun q _ => by
    split <;> simp
  unfold gather
  rw [mulT_at]
  simp only [mul_at, hK.S, hy, h1]
  simp only [← EReal.coe_mul, ← coe_sum]
  congr 1
  unfold core
  push_cast
  rw [Finset.sum_comm]
  refine Finset.sum_congr rfl fun q _ => ?_
  rw [Finset.sum_mul]
  refine Finset.sum_congr rfl fun p _ => ?_
  by_cases hp : (p.val + t) / b = i.val <;> by_cases hq : (q.val + t) / b = j.val <;> simp [hp, hq]

/-! ## The counts -/

/-- The absolute value of a difference from zero. -/
theorem mag_zero_sub (a : EReal) : mag (0 - a) = mag a := by
  unfold mag
  rw [zero_sub, neg_neg, max_comm]

/-- A matrix of counts: the real pixels that pass the test, and the padded ones. -/
theorem counts_at (hK : Good b t R n K) (d : Fin 3) (Y : Mat Ideal n n) (Z : Mat Ideal R R)
    (hY : ∀ p q : Fin n, Y (ix2 p q) =
      ((near d b (at_ x p q) (at_ x (mid b t ((p.val + t) / b)) (mid b t ((q.val + t) / b))) : ℝ) : EReal))
    (hZ : ∀ i j : Fin R, Z (ix2 i j) = ((near d b 0 (at_ x (mid b t i) (mid b t j)) : ℝ) : EReal)) (i j : Fin R) :
    addf (gather K.S Y) (mulf K.N Z) (ix2 i j) = ((near_count d b t n x i j : ℝ) : EReal) := by
  rw [addf_apply, mulf_apply, gather_at hK Y
    (fun p q => near d b (at_ x p q) (at_ x (mid b t ((p + t) / b)) (mid b t ((q + t) / b)))) hY, hK.N, hZ,
    ← EReal.coe_mul, ← EReal.coe_add]
  unfold near_count
  rw [count_eq t n hK.pos]
  rw [core_congr (γ := fun p q => near d b (at_ x p q) (at_ x (mid b t i) (mid b t j)))
    fun p q _ _ hp hq => by rw [hp, hq]]

/-- The pixels of three matrices are those of an image. -/
abbrev Shows (X : Fin 3 → Mat Ideal n n) (x : Image) : Prop := ∀ (c : Fin 3) (p q : Fin n), X c (ix2 p q) = x c p q

variable {X : Fin 3 → Mat Ideal n n}

/-- The distance of a channel from its patch's centre. -/
theorem dist_at (hK : Good b t R n K) (hX : Shows X x) (c : Fin 3) (p q : Fin n) :
    absf (subf (X c) (spread K.S (centres K.G (X c)))) (ix2 p q) =
      mag (at_ x p q c - at_ x (mid b t ((p.val + t) / b)) (mid b t ((q.val + t) / b)) c) := by
  show mag (X c (ix2 p q) - spread K.S (centres K.G (X c)) (ix2 p q)) = _
  rw [spread_at hK, centres_at hK, hX, hX]
  rfl

/-- The distance of a padded pixel from its patch's centre. -/
theorem pad_at (hK : Good b t R n K) (hX : Shows X x) (c : Fin 3) (i j : Fin R) :
    absf (centres K.G (X c)) (ix2 i j) = mag ((0 : Pixel) c - at_ x (mid b t i) (mid b t j) c) := by
  show mag (centres K.G (X c) (ix2 i j)) = _
  rw [centres_at hK, hX, Pi.zero_apply, mag_zero_sub]
  rfl

/-- The counts of the maximum distance. -/
theorem chebK_at (hK : Good b t R n K) (hw : GoodWords b R w) (hX : Shows X x) (i j : Fin R) :
    chebK w K X (ix2 i j) = ((near_count 0 b t n x i j : ℝ) : EReal) := by
  have hb : (word w.box : Ideal .f32) = ((b : ℝ) : EReal) := hw.box
  refine counts_at hK 0 _ _ (fun p q => ?_) (fun i j => ?_) i j
  · rw [hb, maxLe_at, dist_at hK hX, dist_at hK hX, dist_at hK hX]
    rfl
  · rw [hb, maxLe_at, pad_at hK hX, pad_at hK hX, pad_at hK hX]
    rfl

/-- The counts of the sum distance. -/
theorem manhK_at (hK : Good b t R n K) (hw : GoodWords b R w) (hX : Shows X x) (i j : Fin R) :
    manhK w K X (ix2 i j) = ((near_count 2 b t n x i j : ℝ) : EReal) := by
  have hb : (word w.box : Ideal .f32) = ((b : ℝ) : EReal) := hw.box
  refine counts_at hK 2 _ _ (fun p q => ?_) (fun i j => ?_) i j
  · rw [hb, sumLe_at, dist_at hK hX, dist_at hK hX, dist_at hK hX]
    rfl
  · rw [hb, sumLe_at, pad_at hK hX, pad_at hK hX, pad_at hK hX]
    rfl

/-- A padded pixel has norm zero. -/
theorem eucl_zero (b : ℕ) (c : Pixel) : near 1 b 0 c = 1 := by
  show eucl b 0 c = 1
  unfold eucl
  rw [if_pos]
  simp only [Pi.zero_apply, mul_zero, add_zero]
  rw [← EReal.coe_mul]
  exact_mod_cast mul_nonneg (Nat.cast_nonneg b) (Nat.cast_nonneg b)

/-- The counts of the squared norm. -/
theorem euclK_at (hK : Good b t R n K) (hw : GoodWords b R w) (hX : Shows X x) (i j : Fin R) :
    euclK w K X (ix2 i j) = ((near_count 1 b t n x i j : ℝ) : EReal) := by
  refine counts_at hK 1 _ _ (fun p q => ?_) (fun i j => ?_) i j
  · rw [bits_le, ite_cast]
    show (((if X 0 (ix2 p q) * X 0 (ix2 p q) + X 1 (ix2 p q) * X 1 (ix2 p q) + X 2 (ix2 p q) * X 2 (ix2 p q) ≤
      Ideal.ofBits .f32 w.box * Ideal.ofBits .f32 w.box then 1 else 0 : ℕ) : ℝ) : EReal) = _
    rw [hw.box, hX, hX, hX]
    rfl
  · rw [eucl_zero]
    show Ideal.ofBits .f32 0x3F800000#32 = _
    rw [Ideal.ofBits_one_f32]
    simp

/-! ## The statistics -/

section Stats

variable {L : ℕ} {C : Mat Ideal R R} {c : Fin R × Fin R → ℕ}

/-- A matrix holds the counts `c`. -/
abbrev Holds (C : Mat Ideal R R) (c : Fin R × Fin R → ℕ) : Prop := ∀ p : Fin R × Fin R, C (ix2 p.1 p.2) = ((c p : ℝ) : EReal)

theorem valid_at (hw : GoodWords b R w) (hC : Holds C c) (p : Fin R × Fin R) :
    valid w C (ix2 p.1 p.2) = if c p < b * b then 1 else 0 := by
  unfold valid
  rw [bits_lt, hC]
  show (if ((c p : ℝ) : EReal) < Ideal.ofBits .f32 w.cap - Ideal.ofBits .f32 0x3F000000#32 then (1 : EReal) else 0) = _
  rw [hw.cap, hw.half, ← EReal.coe_sub]
  refine if_congr (EReal.coe_lt_coe_iff.trans ?_) rfl rfl
  constructor
  · intro h
    have h' : (c p : ℝ) < ((b * b : ℕ) : ℝ) := h.trans (by linarith)
    exact_mod_cast h'
  · intro h
    have h' : (c p : ℝ) + 1 ≤ ((b * b : ℕ) : ℝ) := by exact_mod_cast h
    linarith

theorem next_at (hC : Holds C c) (p : Fin R × Fin R) : next C (ix2 p.1 p.2) = (((c p : ℝ) + 1 : ℝ) : EReal) := by
  show C (ix2 p.1 p.2) + Ideal.ofBits .f32 0x3F800000#32 = _
  rw [hC, Ideal.ofBits_one_f32, EReal.coe_add, EReal.coe_one]

/-- The number of counts below the cap. -/
theorem total_valid (h : Square R) (hw : GoodWords b R w) (hC : Holds C c) : total h (valid w C) = below (b * b) c fun _ => 1 := by
  rw [total_at]
  unfold below
  exact Finset.sum_congr rfl fun p _ => by rw [valid_at hw hC, EReal.coe_one]

theorem fdK_eq (h : Square R) (hw : GoodWords b R w) (hC : Holds C c) : fdK h w C = fd (b * b) c := by
  show Ideal.div (total h (divf (valid w C) (next C))) (total h (valid w C)) = _
  unfold fd mean
  rw [total_valid h hw hC, total_at]
  congr 1
  unfold below
  refine Finset.sum_congr rfl fun p _ => ?_
  rw [divf_apply, valid_at hw hC, next_at hC, div_coe_right _ (by positivity)]
  split <;> simp

theorem mu1K_eq (h : Square R) (hw : GoodWords b R w) (hC : Holds C c) : mu1K h w C = mean (b * b) c fun k => (k : ℝ) + 1 := by
  show Ideal.div (total h (mulf (valid w C) (next C))) (total h (valid w C)) = _
  unfold mean
  rw [total_valid h hw hC, total_at]
  congr 1
  unfold below
  refine Finset.sum_congr rfl fun p _ => ?_
  rw [mulf_apply, valid_at hw hC, next_at hC]
  split <;> simp

theorem lacK_eq (h : Square R) (hw : GoodWords b R w) (hC : Holds C c) : lacK h w C = lac (b * b) c := by
  show Ideal.div (Ideal.div (total h (mulf (mulf (valid w C) (next C)) (next C))) (total h (valid w C)) -
    mu1K h w C * mu1K h w C) (mu1K h w C * mu1K h w C) = _
  unfold lac mu1sq
  rw [mu1K_eq h hw hC, total_valid h hw hC, total_at]
  congr 2
  unfold mean
  congr 1
  unfold below
  refine Finset.sum_congr rfl fun p _ => ?_
  rw [mulf_apply, mulf_apply, valid_at hw hC, next_at hC, EReal.coe_mul]
  split <;> simp

theorem pqK_eq (h : Square R) (hw : GoodWords b R w) (hC : Holds C c) : pqK h w C = pq (b * b) (R * R) threshold c := by
  show Ideal.div (total (F := Ideal) h _) (Ideal.ofBits .f32 w.num) = _
  unfold pq
  rw [hw.num, total_at]
  congr 1
  refine Finset.sum_congr rfl fun p _ => ?_
  rw [bits_ge, divf_apply, hC]
  show (if Ideal.ofBits .f32 0x3F17BE77#32 ≤ Ideal.div _ (Ideal.ofBits .f32 w.cap) then (1 : EReal) else 0) = _
  rw [hw.cap]
  rfl

end Stats

end Cert.Boxes

end
-- ==== Proof.RowValue.lean ====
/-
  One image's row of the kernel's result at the ideal values: lane `15·d + 3·e + k` holds the statistic `k` of the
  distance `d` at the box size number `e`.
-/
module

public import proofs.«01_k».proof.Proof.RowRead
public import Mathlib.Tactic.FinCases

@[expose] public section

set_option maxRecDepth 16384

noncomputable section

namespace Cert.Boxes

open Idealize.ShloMosaic Idealize.ShloMosaic.ValueIdx
open scoped BigOperators

/-- The statistic at a lane: the five box sizes 3, 5, 7, 9 and 11 with their numbers of patches per side and of padded
    pixels before a line. -/
def lanes (f : ℕ → ℕ → ℕ → Fin 3 → Fin 3 → EReal) (d : Fin 3) (e : Fin 5) (k : Fin 3) : EReal :=
  match e with
  | 0 => f 3 0 75 d k
  | 1 => f 5 0 45 d k
  | 2 => f 7 0 32 d k
  | 3 => f 9 0 25 d k
  | 4 => f 11 3 21 d k

/-- The number of a lane's distance. -/
abbrev dOf (l : Fin 45) : Fin 3 := ⟨l.val / 15, by omega⟩
/-- The number of a lane's box size. -/
abbrev eOf (l : Fin 45) : Fin 5 := ⟨l.val % 15 / 3, by omega⟩
/-- The number of a lane's statistic. -/
abbrev kOf (l : Fin 45) : Fin 3 := ⟨l.val % 3, by omega⟩

/-- What both programs compute for an image at a lane. -/
def answer (x : Image) (l : Fin 45) : EReal :=
  lanes (fun b t R d k => feature d b t R 224 k x) (dOf l) (eOf l) (kOf l)

/-- A row with a value added at a lane, read at a lane. -/
theorem put_at (h : (⟨2, ![1, 45]⟩ : Shape).Iotas .tc 32 [1]) (r : Mat Ideal 1 45) (i : ℕ) (hi : i < 45) (v : EReal) (l : Fin 45) :
    put (F := Ideal) h r (BitVec.ofNat 32 i) v (ix2 0 l) = r (ix2 0 l) + if l.val = i then v else 0 := by
  have hl : l.val < 45 := l.isLt
  have he : (BitVec.ofNat 32 (0 * 45 + l.val) = BitVec.ofNat 32 i) ↔ l.val = i := by
    rw [← BitVec.toNat_inj, BitVec.toNat_ofNat, BitVec.toNat_ofNat, Nat.mod_eq_of_lt (by omega), Nat.mod_eq_of_lt (by omega)]
    omega
  show r (ix2 0 l) + Scalar.select (BitVec.ofBool (decide (BitVec.ofNat 32 (0 * 45 + l.val) = BitVec.ofNat 32 i))) v
    (Ideal.ofBits .f32 0x00000000#32) = _
  rw [Ideal.ofBits_zero_f32]
  congr 1
  by_cases hc : l.val = i
  · rw [if_pos hc, decide_eq_true (he.mpr hc)]; rfl
  · rw [if_neg hc, decide_eq_false fun e => hc (he.mp e)]; rfl

variable {R n b t : ℕ} {w : Words} {K : Consts Ideal R n} {X : Fin 3 → Mat Ideal n n} {x : Image}

/-- A row with three statistics added, read at a lane. -/
theorem putStats_at (hI : (⟨2, ![1, 45]⟩ : Shape).Iotas .tc 32 [1]) (h : Square R) (hw : GoodWords b R w) {C : Mat Ideal R R}
    {c : Fin R × Fin R → ℕ} (hC : Holds C c) (i j k : ℕ) (hi : i < 45) (hj : j < 45) (hk : k < 45) (r : Mat Ideal 1 45) (l : Fin 45) :
    putStats hI h w C (BitVec.ofNat 32 i) (BitVec.ofNat 32 j) (BitVec.ofNat 32 k) r (ix2 0 l) =
      r (ix2 0 l) + (if l.val = i then fd (b * b) c else 0) + (if l.val = j then lac (b * b) c else 0) +
        if l.val = k then pq (b * b) (R * R) threshold c else 0 := by
  unfold putStats
  rw [put_at hI _ k hk, put_at hI _ j hj, put_at hI _ i hi, fdK_eq h hw hC, lacK_eq h hw hC, pqK_eq h hw hC]

/-- The value a box size adds at a lane: the three statistics of the three distances at the lanes from `i`, `15 + i` and
    `30 + i` on. -/
def adds (f : Fin 3 → Fin 3 → EReal) (i l : ℕ) (a : EReal) : EReal :=
  a + (if l = i then f 0 0 else 0) + (if l = i + 1 then f 0 1 else 0) + (if l = i + 2 then f 0 2 else 0)
    + (if l = i + 15 then f 1 0 else 0) + (if l = i + 16 then f 1 1 else 0) + (if l = i + 17 then f 1 2 else 0)
    + (if l = i + 30 then f 2 0 else 0) + (if l = i + 31 then f 2 1 else 0) + (if l = i + 32 then f 2 2 else 0)

/-- A row with a box size's statistics added, read at a lane. -/
theorem putBox_at (hI : (⟨2, ![1, 45]⟩ : Shape).Iotas .tc 32 [1]) (h : Square R) (hw : GoodWords b R w) (hK : Good b t R n K)
    (hX : Shows X x) (i : ℕ) (hi : i < 13) (r : Mat Ideal 1 45) (l : Fin 45) :
    putBox hI h w K X (BitVec.ofNat 32 i) (BitVec.ofNat 32 (i + 1)) (BitVec.ofNat 32 (i + 2)) (BitVec.ofNat 32 (i + 15))
      (BitVec.ofNat 32 (i + 16)) (BitVec.ofNat 32 (i + 17)) (BitVec.ofNat 32 (i + 30)) (BitVec.ofNat 32 (i + 31))
      (BitVec.ofNat 32 (i + 32)) r (ix2 0 l) = adds (fun d k => feature d b t R n k x) i l (r (ix2 0 l)) := by
  unfold putBox
  rw [putStats_at hI h hw (c := counts 2 b t R n x) (fun p => manhK_at hK hw hX p.1 p.2) _ _ _ (by omega) (by omega) (by omega),
    putStats_at hI h hw (c := counts 1 b t R n x) (fun p => euclK_at hK hw hX p.1 p.2) _ _ _ (by omega) (by omega) (by omega),
    putStats_at hI h hw (c := counts 0 b t R n x) (fun p => chebK_at hK hw hX p.1 p.2) _ _ _ (by omega) (by omega) (by omega)]
  rfl

/-- Five box sizes' statistics added to zero: at each lane one of them. -/
theorem adds_lanes (f : ℕ → ℕ → ℕ → Fin 3 → Fin 3 → EReal) (l : Fin 45) :
    adds (f 11 3 21) 12 l (adds (f 9 0 25) 9 l (adds (f 7 0 32) 6 l (adds (f 5 0 45) 3 l (adds (f 3 0 75) 0 l 0)))) =
      lanes f (dOf l) (eOf l) (kOf l) := by
  unfold adds
  fin_cases l <;> simp <;> rfl

/-- The words of box size 3. -/
theorem good3 : GoodWords 3 75 w3 := by
  constructor <;> simp [Ideal.ofBits, Ideal.ieee, -EReal.coe_mul, w3] <;> norm_num

/-- The words of box size 5. -/
theorem good5 : GoodWords 5 45 w5 := by
  constructor <;> simp [Ideal.ofBits, Ideal.ieee, -EReal.coe_mul, w5] <;> norm_num

/-- The words of box size 7. -/
theorem good7 : GoodWords 7 32 w7 := by
  constructor <;> simp [Ideal.ofBits, Ideal.ieee, -EReal.coe_mul, w7] <;> norm_num

/-- The words of box size 9. -/
theorem good9 : GoodWords 9 25 w9 := by
  constructor <;> simp [Ideal.ofBits, Ideal.ieee, -EReal.coe_mul, w9] <;> norm_num

/-- The words of box size 11. -/
theorem good11 : GoodWords 11 21 w11 := by
  constructor <;> simp [Ideal.ofBits, Ideal.ieee, -EReal.coe_mul, w11] <;> norm_num

/-- One image's row at a lane. -/
theorem row_at (h : Sides) {K3 : Consts Ideal 75 224} {K5 : Consts Ideal 45 224} {K7 : Consts Ideal 32 224}
    {K9 : Consts Ideal 25 224} {K11 : Consts Ideal 21 224} (h3 : Good 3 0 75 224 K3) (h5 : Good 5 0 45 224 K5)
    (h7 : Good 7 0 32 224 K7) (h9 : Good 9 0 25 224 K9) (h11 : Good 11 3 21 224 K11) {X : Fin 3 → Mat Ideal 224 224} {x : Image}
    (hX : Shows X x) (l : Fin 45) : row h K3 K5 K7 K9 K11 X (ix2 0 l) = answer x l := by
  refine (putBox_at h.io h.s11 good11 h11 hX 12 (by omega) _ l).trans ?_
  rw [putBox_at h.io h.s9 good9 h9 hX 9 (by omega) _ l, putBox_at h.io h.s7 good7 h7 hX 6 (by omega) _ l,
    putBox_at h.io h.s5 good5 h5 hX 3 (by omega) _ l, putBox_at h.io h.s3 good3 h3 hX 0 (by omega) _ l]
  show adds _ 12 l (adds _ 9 l (adds _ 6 l (adds _ 3 l (adds _ 0 l (Ideal.ofBits .f32 0x00000000#32))))) = _
  rw [Ideal.ofBits_zero_f32]
  exact adds_lanes (fun b t R d k => feature d b t R 224 k x) l

end Cert.Boxes

end
-- ==== Proof.KernelBlock.lean ====
/-
  What the kernel leaves in one block of its result: at row `j` and column `l`, the answer of image `j` of the block.
-/
module

public import proofs.«01_k».proof.Proof.RowBody
public import proofs.«01_k».proof.Proof.RowValue
public import Idealize.ShloMosaic.Lib.Pipeline.ValueKit
public import Idealize.ShloMosaic.Lib.StableHlo.Predicate
public import Idealize.ShloMosaic.Lib.Pointwise.Reshape

@[expose] public section

set_option maxRecDepth 16384

noncomputable section

namespace Cert.Boxes

open Cert.KernelIdeal Cert.KernelIdeal.Gen Idealize.ShloMosaic.ValueIdx
open Idealize.ShloMosaic hiding ix1 ix2 ix3 ix4 ix5

/-- Eight rows stacked, read at a row. -/
theorem stack_at (f : Fin 8 → (S1x45.Idx → EReal)) (h : Shape.Concatenates [S1x45, S1x45, S1x45, S1x45, S1x45, S1x45, S1x45, S1x45] S8x45 0)
    (j : Fin 8) (l : Fin 45) :
    concatenate S8x45 0 [⟨S1x45, f 0⟩, ⟨S1x45, f 1⟩, ⟨S1x45, f 2⟩, ⟨S1x45, f 3⟩, ⟨S1x45, f 4⟩, ⟨S1x45, f 5⟩, ⟨S1x45, f 6⟩, ⟨S1x45, f 7⟩] h (ix2 j l) =
      f j (ix2 0 l) := by
  have off : ∀ b : Fin S1x45.rank, b.cast (rfl : S1x45.rank = S8x45.rank) ≠ 0 → ((ix2 0 l : S1x45.Idx) b).val = ((ix2 j l : S8x45.Idx) (b.cast rfl)).val := by
    intro b hb
    match b with
    | ⟨0, _⟩ => exact absurd rfl hb
    | ⟨1, _⟩ => rfl
  match j with
  | ⟨0, _⟩ => refine concatenate_apply_piece (t := S8x45) 0 _ _ (ix2 _ l) 0 ?_ S1x45 (f 0) ?_ rfl 0 ?_ (ix2 0 l) off ?_ <;> first | rfl | exact Nat.lt_of_sub_pos (Nat.succ_pos _) | simp
  | ⟨1, _⟩ => refine concatenate_apply_piece (t := S8x45) 0 _ _ (ix2 _ l) 1 ?_ S1x45 (f 1) ?_ rfl 1 ?_ (ix2 0 l) off ?_ <;> first | rfl | exact Nat.lt_of_sub_pos (Nat.succ_pos _) | simp
  | ⟨2, _⟩ => refine concatenate_apply_piece (t := S8x45) 0 _ _ (ix2 _ l) 2 ?_ S1x45 (f 2) ?_ rfl 2 ?_ (ix2 0 l) off ?_ <;> first | rfl | exact Nat.lt_of_sub_pos (Nat.succ_pos _) | simp
  | ⟨3, _⟩ => refine concatenate_apply_piece (t := S8x45) 0 _ _ (ix2 _ l) 3 ?_ S1x45 (f 3) ?_ rfl 3 ?_ (ix2 0 l) off ?_ <;> first | rfl | exact Nat.lt_of_sub_pos (Nat.succ_pos _) | simp
  | ⟨4, _⟩ => refine concatenate_apply_piece (t := S8x45) 0 _ _ (ix2 _ l) 4 ?_ S1x45 (f 4) ?_ rfl 4 ?_ (ix2 0 l) off ?_ <;> first | rfl | exact Nat.lt_of_sub_pos (Nat.succ_pos _) | simp
  | ⟨5, _⟩ => refine concatenate_apply_piece (t := S8x45) 0 _ _ (ix2 _ l) 5 ?_ S1x45 (f 5) ?_ rfl 5 ?_ (ix2 0 l) off ?_ <;> first | rfl | exact Nat.lt_of_sub_pos (Nat.succ_pos _) | simp
  | ⟨6, _⟩ => refine concatenate_apply_piece (t := S8x45) 0 _ _ (ix2 _ l) 6 ?_ S1x45 (f 6) ?_ rfl 6 ?_ (ix2 0 l) off ?_ <;> first | rfl | exact Nat.lt_of_sub_pos (Nat.succ_pos _) | simp
  | ⟨7, _⟩ => refine concatenate_apply_piece (t := S8x45) 0 _ _ (ix2 _ l) 7 ?_ S1x45 (f 7) ?_ rfl 7 ?_ (ix2 0 l) off ?_ <;> first | rfl | exact Nat.lt_of_sub_pos (Nat.succ_pos _) | simp

/-- A loaded channel, its two unit axes dropped. -/
theorem plane_at (a : S1x1x224x224.Idx → EReal) (p q : Fin 224) :
    shapeCast S224x224 a shapeCasts_S1x1x224x224_S224x224 (ix2 p q) = a (ix4 0 0 p q) := by
  refine Idealize.ShloMosaic.shapeCast_apply a _ (ix2 p q) (ix4 0 0 p q) ?_
  rw [Shape.rowMajor_val_two, Shape.rowMajor_val_four]
  simp

/-- Three loaded channels show the image whose pixels they hold. -/
theorem channels_at {a b c : S1x1x224x224.Idx → EReal} {x : Image} (ha : ∀ p q : Fin 224, a (ix4 0 0 p q) = x 0 p q)
    (hb : ∀ p q : Fin 224, b (ix4 0 0 p q) = x 1 p q) (hc : ∀ p q : Fin 224, c (ix4 0 0 p q) = x 2 p q) :
    Shows (channels (F := Ideal) a b c) x := by
  intro ch p q
  match ch with
  | 0 => exact (plane_at a p q).trans (ha p q)
  | 1 => exact (plane_at b p q).trans (hb p q)
  | 2 => exact (plane_at c p q).trans (hc p q)

/-- A channel loaded out of a block of images. -/
theorem load_at (X : S8x3x224x224.Idx → EReal) (j : Fin 8) (ch : Fin 3)
    (inb : ∀ a, (![j.val, ch.val, 0, 0] : Fin 4 → ℕ) a + S1x1x224x224.size a ≤ S8x3x224x224.size a) (p q : Fin 224) :
    View.ld (Val := Elt Ideal) (e' := .f32) X (Rect.unit (s := S8x3x224x224) ![j.val, ch.val, 0, 0] S1x1x224x224.size inb) (ix4 0 0 p q) = X (ix4 j ch p q) := by
  refine View.ld_unit_apply_of _ _ _ _ _ _ fun a => ?_
  match a with
  | ⟨0, _⟩ => simp
  | ⟨1, _⟩ => simp
  | ⟨2, _⟩ => simp
  | ⟨3, _⟩ => simp

variable (x0 : S8x3x224x224.Idx → EReal) (x1 x2 : S75x224.Idx → EReal) (x3 : S75x75.Idx → EReal)
  (x4 x5 : S45x224.Idx → EReal) (x6 : S45x45.Idx → EReal) (x7 x8 : S32x224.Idx → EReal) (x9 : S32x32.Idx → EReal)
  (x10 x11 : S25x224.Idx → EReal) (x12 : S25x25.Idx → EReal) (x13 x14 : S21x224.Idx → EReal) (x15 : S21x21.Idx → EReal)

theorem zeros2 : (![0, 0] : Fin 2 → ℕ) = fun _ => 0 := funext fun a => by fin_cases a <;> rfl

theorem zeros3 : (![0, 0, 0] : Fin 3 → ℕ) = fun _ => 0 := funext fun a => by fin_cases a <;> rfl

variable {x0 x1 x2 x3 x4 x5 x6 x7 x8 x9 x10 x11 x12 x13 x14 x15}

/-- The row of an image, from good constants. -/
theorem rowOf_at (h3 : Good 3 0 75 224 ⟨x1, x2, x3⟩) (h5 : Good 5 0 45 224 ⟨x4, x5, x6⟩) (h7 : Good 7 0 32 224 ⟨x7, x8, x9⟩)
    (h9 : Good 9 0 25 224 ⟨x10, x11, x12⟩) (h11 : Good 11 3 21 224 ⟨x13, x14, x15⟩) {a b c : S1x1x224x224.Idx → EReal} {x : Image}
    (ha : ∀ p q : Fin 224, a (ix4 0 0 p q) = x 0 p q) (hb : ∀ p q : Fin 224, b (ix4 0 0 p q) = x 1 p q)
    (hc : ∀ p q : Fin 224, c (ix4 0 0 p q) = x 2 p q) (l : Fin 45) :
    rowOf (F := Ideal) x1 x2 x3 x4 x5 x6 x7 x8 x9 x10 x11 x12 x13 x14 x15 a b c (ix2 0 l) = answer x l := by
  unfold rowOf
  rw [View.ld_unit_zero zeros2, View.ld_unit_zero zeros2, View.ld_unit_zero zeros2, View.ld_unit_zero zeros2, View.ld_unit_zero zeros2,
    View.ld_unit_zero zeros2, View.ld_unit_zero zeros2, View.ld_unit_zero zeros2, View.ld_unit_zero zeros2, View.ld_unit_zero zeros2,
    View.ld_unit_zero zeros2, View.ld_unit_zero zeros2, View.ld_unit_zero zeros2, View.ld_unit_zero zeros2, View.ld_unit_zero zeros2]
  exact row_at sides h3 h5 h7 h9 h11 (channels_at ha hb hc) l

/-- The body's block of the result: at row `j` and column `l`, the answer of image `j`. -/
theorem block_at (h3 : Good 3 0 75 224 ⟨x1, x2, x3⟩) (h5 : Good 5 0 45 224 ⟨x4, x5, x6⟩) (h7 : Good 7 0 32 224 ⟨x7, x8, x9⟩)
    (h9 : Good 9 0 25 224 ⟨x10, x11, x12⟩) (h11 : Good 11 3 21 224 ⟨x13, x14, x15⟩) {x : Fin 8 → Image}
    (hx : ∀ (j : Fin 8) (c : Fin 3) (p q : Fin 224), x0 (ix4 j c p q) = x j c p q) (j : Fin 8) (l : Fin 45) :
    out0_16 (F := Ideal) x0 x1 x2 x3 x4 x5 x6 x7 x8 x9 x10 x11 x12 x13 x14 x15 (ix3 0 j l) = answer (x j) l := by
  have ld : ∀ (j : Fin 8) (c : Fin 3) inb (p q : Fin 224), View.ld (Val := Elt Ideal) (e' := .f32) x0
      (Rect.unit (s := S8x3x224x224) ![j.val, c.val, 0, 0] S1x1x224x224.size inb) (ix4 0 0 p q) = x j c p q :=
    fun j c inb p q => (load_at x0 j c inb p q).trans (hx j c p q)
  have at_row : ∀ (j : Fin 8) i0 i1 i2, rowOf (F := Ideal) x1 x2 x3 x4 x5 x6 x7 x8 x9 x10 x11 x12 x13 x14 x15
      (View.ld (Val := Elt Ideal) (e' := .f32) x0 (Rect.unit (s := S8x3x224x224) ![j.val, (0 : Fin 3).val, 0, 0] S1x1x224x224.size i0))
      (View.ld (Val := Elt Ideal) (e' := .f32) x0 (Rect.unit (s := S8x3x224x224) ![j.val, (1 : Fin 3).val, 0, 0] S1x1x224x224.size i1))
      (View.ld (Val := Elt Ideal) (e' := .f32) x0 (Rect.unit (s := S8x3x224x224) ![j.val, (2 : Fin 3).val, 0, 0] S1x1x224x224.size i2))
      (ix2 0 l) = answer (x j) l :=
    fun j i0 i1 i2 => rowOf_at h3 h5 h7 h9 h11 (ld j 0 i0) (ld j 1 i1) (ld j 2 i2) l
  rw [out_eq, View.canon_unit_zero zeros3]
  refine (Idealize.ShloMosaic.shapeCast_apply _ _ (ix3 0 j l) (ix2 j l) ?_).trans ?_
  · rw [Shape.rowMajor_val_two, Shape.rowMajor_val_three]
    simp
  refine (stack_at ![_, _, _, _, _, _, _, _] _ j l).trans ?_
  match j with
  | ⟨0, _⟩ => exact at_row 0 _ _ _
  | ⟨1, _⟩ => exact at_row 1 _ _ _
  | ⟨2, _⟩ => exact at_row 2 _ _ _
  | ⟨3, _⟩ => exact at_row 3 _ _ _
  | ⟨4, _⟩ => exact at_row 4 _ _ _
  | ⟨5, _⟩ => exact at_row 5 _ _ _
  | ⟨6, _⟩ => exact at_row 6 _ _ _
  | ⟨7, _⟩ => exact at_row 7 _ _ _

end Cert.Boxes

end
-- ==== Proof.Tables.lean ====
/-
  The constant matrices the kernel is launched with: each word of the printed tables, decided entry by entry.
-/
module

public import proofs.«01_k».proof.Proof.Gen.KernelIdeal.Frame
public import proofs.«01_k».proof.Proof.RowRead

@[expose] public section

set_option maxRecDepth 16384

noncomputable section

namespace Cert.Boxes

open Cert.KernelIdeal Cert.KernelIdeal.Gen Idealize.ShloMosaic Idealize.ShloMosaic.ValueIdx
open Idealize.ShloMosaic.TcCoe Idealize.SL.Sem

/-- The number of real pixels of patch `i` on a line of 224 pixels, `t` padded ones before it. -/
def reals (b t i : ℕ) : ℕ := min ((i + 1) * b) (224 + t) - max (i * b) t

/-- The number of padded pixels of a patch. -/
def pads (b t i j : ℕ) : ℕ := b * b - reals b t i * reals b t j

/-- The words of the numbers of padded pixels that occur. -/
def natWord (v : ℕ) : BitVec 32 :=
  match v with
  | 0 => 0x00000000#32
  | 3 => 0x40400000#32
  | 5 => 0x40A00000#32
  | 9 => 0x41100000#32
  | 17 => 0x41880000#32
  | 33 => 0x42040000#32
  | 44 => 0x42300000#32
  | 57 => 0x42640000#32
  | 65 => 0x42820000#32
  | 72 => 0x42900000#32
  | _ => 0xFFFFFFFF#32

/-- The numbers of padded pixels that occur. -/
def padCounts : List ℕ := [0, 3, 5, 9, 17, 33, 44, 57, 65, 72]

/-- Their words denote them. -/
theorem natWord_eq {v : ℕ} (hv : v ∈ padCounts) : Ideal.ofBits .f32 (natWord v) = ((v : ℝ) : EReal) := by
  simp only [padCounts, List.mem_cons, List.not_mem_nil, or_false] at hv
  rcases hv with rfl | rfl | rfl | rfl | rfl | rfl | rfl | rfl | rfl | rfl <;>
    simp [natWord, Ideal.ofBits, Ideal.ieee, -EReal.coe_mul] <;> norm_num

/-- The word of one where a test holds, of zero elsewhere. -/
def oneWord (q : Bool) : BitVec 32 := if q then 0x3F800000#32 else 0#32

theorem oneWord_eq (q : Prop) [Decidable q] : Ideal.ofBits .f32 (oneWord (decide q)) = if q then 1 else 0 := by
  by_cases h : q <;> simp [oneWord, h]

/-- The position of an entry in a matrix stored row by row. -/
theorem flat_lt {m n : ℕ} (i : Fin m) (p : Fin n) : i.val * n + p.val < m * n := by
  have h1 := i.isLt
  have h2 := p.isLt
  calc i.val * n + p.val < i.val * n + n := by omega
    _ = (i.val + 1) * n := by ring
    _ ≤ m * n := Nat.mul_le_mul_right _ h1

/-- The words of a centre matrix. -/
abbrev IsG (b t R : ℕ) (T : Fin (R * 224) → BitVec 32) : Prop :=
  ∀ (i : Fin R) (p : Fin 224), T ⟨i.val * 224 + p.val, flat_lt i p⟩ = oneWord (decide (p.val = mid b t i))

/-- The words of a patch matrix. -/
abbrev IsS (b t R : ℕ) (T : Fin (R * 224) → BitVec 32) : Prop :=
  ∀ (i : Fin R) (p : Fin 224), T ⟨i.val * 224 + p.val, flat_lt i p⟩ = oneWord (decide ((p.val + t) / b = i.val))

/-- The words of a matrix of padded pixels. -/
abbrev IsN (b t R : ℕ) (T : Fin (R * R) → BitVec 32) : Prop :=
  ∀ i j : Fin R, T ⟨i.val * R + j.val, flat_lt i j⟩ = natWord (pads b t i j)

/-- What is decided of a box size's geometry. -/
structure Geometry (b t R : ℕ) : Prop where
  pos : 0 < b
  row : ∀ p : Fin 224, (p.val + t) / b < R
  cen : ∀ i : Fin R, mid b t i < 224
  reals : ∀ i : Fin R, real b t 224 i = reals b t i
  le : ∀ i j : Fin R, Boxes.reals b t i * Boxes.reals b t j ≤ b * b
  mem : ∀ i j : Fin R, pads b t i j ∈ padCounts

/-- The constants of a box size out of their words. -/
theorem good_of_words {b t R : ℕ} {K : Consts Ideal R 224} {g s : Fin (R * 224) → BitVec 32} {n : Fin (R * R) → BitVec 32}
    (geo : Geometry b t R) (hg : IsG b t R g) (hs : IsS b t R s) (hn : IsN b t R n)
    (hG : ∀ i p, K.G (ix2 i p) = Ideal.ofBits .f32 (g ⟨i.val * 224 + p.val, flat_lt i p⟩))
    (hS : ∀ i p, K.S (ix2 i p) = Ideal.ofBits .f32 (s ⟨i.val * 224 + p.val, flat_lt i p⟩))
    (hN : ∀ i j, K.N (ix2 i j) = Ideal.ofBits .f32 (n ⟨i.val * R + j.val, flat_lt i j⟩)) : Good b t R 224 K where
  pos := geo.pos
  row p hp := geo.row ⟨p, hp⟩
  cen i hi := geo.cen ⟨i, hi⟩
  G i p := by rw [hG, hg, oneWord_eq]
  S i p := by rw [hS, hs, oneWord_eq]
  N i j := by
    rw [hN, hn, natWord_eq (geo.mem i j), geo.reals i, geo.reals j]
    unfold pads
    rw [Nat.cast_sub (geo.le i j)]
    push_cast
    rfl

theorem geo3 : Geometry 3 0 75 := ⟨by decide, by decide +kernel, by decide +kernel, by decide +kernel, by decide +kernel, by decide +kernel⟩

theorem geo5 : Geometry 5 0 45 := ⟨by decide, by decide +kernel, by decide +kernel, by decide +kernel, by decide +kernel, by decide +kernel⟩

theorem geo7 : Geometry 7 0 32 := ⟨by decide, by decide +kernel, by decide +kernel, by decide +kernel, by decide +kernel, by decide +kernel⟩

theorem geo9 : Geometry 9 0 25 := ⟨by decide, by decide +kernel, by decide +kernel, by decide +kernel, by decide +kernel, by decide +kernel⟩

theorem geo11 : Geometry 11 3 21 := ⟨by decide, by decide +kernel, by decide +kernel, by decide +kernel, by decide +kernel, by decide +kernel⟩

theorem isG3 : IsG 3 0 75 lit0 := by decide +kernel

theorem isS3 : IsS 3 0 75 lit1 := by decide +kernel

theorem isN3 : IsN 3 0 75 lit2 := by decide +kernel

theorem isG5 : IsG 5 0 45 lit3 := by decide +kernel

theorem isS5 : IsS 5 0 45 lit4 := by decide +kernel

theorem isN5 : IsN 5 0 45 lit5 := by decide +kernel

theorem isG7 : IsG 7 0 32 lit6 := by decide +kernel

theorem isS7 : IsS 7 0 32 lit7 := by decide +kernel

theorem isN7 : IsN 7 0 32 (fun _ => 0x00000000#32) := by decide +kernel

theorem isG9 : IsG 9 0 25 lit8 := by decide +kernel

theorem isS9 : IsS 9 0 25 lit9 := by decide +kernel

theorem isN9 : IsN 9 0 25 lit10 := by decide +kernel

theorem isG11 : IsG 11 3 21 lit11 := by decide +kernel

theorem isS11 : IsS 11 3 21 lit12 := by decide +kernel

theorem isN11 : IsN 11 3 21 lit13 := by decide +kernel

end Cert.Boxes

end
-- ==== Proof.Entry.lean ====
/-
  The arrays the kernel's windows read when it is launched: the constant matrices and the image with its channels first.
-/
module

public import proofs.«01_k».proof.Proof.Gen.KernelIdeal.Frame
public import Idealize.ShloMosaic.Lib.Claim
public import Idealize.ShloMosaic.Lib.ValueIdx

@[expose] public section

set_option maxRecDepth 16384

noncomputable section

namespace Cert.Boxes

open Cert.KernelIdeal Cert.KernelIdeal.Gen Idealize.ShloMosaic Idealize.ShloMosaic.ValueIdx
open Idealize.ShloMosaic.TcCoe Idealize.SL.Sem

variable (m : (ℓ : Loc nD τ sig) → Buf (Elt Ideal) ℓ) (c : Dev nD)

/-- The image with its channels first. -/
theorem V_image : (V m c main_v0 : S64x3x224x224.Idx → EReal) =
    transpose S64x3x224x224 [0, 3, 1, 2] (m ((c : Thread nD τ).loc main_arg0)) transposes_S64x224x224x3_S64x3x224x224_0_3_1_2 := by
  entry_read; rfl

theorem V_G3 : (V m c main_cst : S75x224.Idx → EReal) = fun i => Ideal.ofBits .f32 (lit0 (S75x224.rowMajor i)) := by
  entry_read; rfl

theorem V_S3 : (V m c main_cst_0 : S75x224.Idx → EReal) = fun i => Ideal.ofBits .f32 (lit1 (S75x224.rowMajor i)) := by
  entry_read; rfl

theorem V_N3 : (V m c main_cst_1 : S75x75.Idx → EReal) = fun i => Ideal.ofBits .f32 (lit2 (S75x75.rowMajor i)) := by
  entry_read; rfl

theorem V_G5 : (V m c main_cst_2 : S45x224.Idx → EReal) = fun i => Ideal.ofBits .f32 (lit3 (S45x224.rowMajor i)) := by
  entry_read; rfl

theorem V_S5 : (V m c main_cst_3 : S45x224.Idx → EReal) = fun i => Ideal.ofBits .f32 (lit4 (S45x224.rowMajor i)) := by
  entry_read; rfl

theorem V_N5 : (V m c main_cst_4 : S45x45.Idx → EReal) = fun i => Ideal.ofBits .f32 (lit5 (S45x45.rowMajor i)) := by
  entry_read; rfl

theorem V_G7 : (V m c main_cst_5 : S32x224.Idx → EReal) = fun i => Ideal.ofBits .f32 (lit6 (S32x224.rowMajor i)) := by
  entry_read; rfl

theorem V_S7 : (V m c main_cst_6 : S32x224.Idx → EReal) = fun i => Ideal.ofBits .f32 (lit7 (S32x224.rowMajor i)) := by
  entry_read; rfl

theorem V_N7 : (V m c main_cst_7 : S32x32.Idx → EReal) = fun i => Ideal.ofBits .f32 (0x00000000#32) := by
  entry_read; rfl

theorem V_G9 : (V m c main_cst_8 : S25x224.Idx → EReal) = fun i => Ideal.ofBits .f32 (lit8 (S25x224.rowMajor i)) := by
  entry_read; rfl

theorem V_S9 : (V m c main_cst_9 : S25x224.Idx → EReal) = fun i => Ideal.ofBits .f32 (lit9 (S25x224.rowMajor i)) := by
  entry_read; rfl

theorem V_N9 : (V m c main_cst_10 : S25x25.Idx → EReal) = fun i => Ideal.ofBits .f32 (lit10 (S25x25.rowMajor i)) := by
  entry_read; rfl

theorem V_G11 : (V m c main_cst_11 : S21x224.Idx → EReal) = fun i => Ideal.ofBits .f32 (lit11 (S21x224.rowMajor i)) := by
  entry_read; rfl

theorem V_S11 : (V m c main_cst_12 : S21x224.Idx → EReal) = fun i => Ideal.ofBits .f32 (lit12 (S21x224.rowMajor i)) := by
  entry_read; rfl

theorem V_N11 : (V m c main_cst_13 : S21x21.Idx → EReal) = fun i => Ideal.ofBits .f32 (lit13 (S21x21.rowMajor i)) := by
  entry_read; rfl

end Cert.Boxes

end
-- ==== Proof.Images.lean ====
/-
  One image out of the array of images.
-/
module

public import proofs.«01_k».proof.Proof.Spec
public import Idealize.ShloMosaic.Lib.ValueIdx

@[expose] public section

noncomputable section

namespace Cert.Boxes

open Idealize.ShloMosaic Idealize.ShloMosaic.ValueIdx

/-- The array of images. -/
abbrev Images : Type := (⟨4, ![64, 224, 224, 3]⟩ : Shape).Idx → EReal

/-- Image `n` of an array of images; zero outside. -/
def img (X : Images) (n : Fin 64) : Image := fun c p q =>
  if h : p < 224 ∧ q < 224 then X (ix4 n ⟨p, h.1⟩ ⟨q, h.2⟩ c) else 0

theorem img_at (X : Images) (n : Fin 64) (c : Fin 3) (p q : Fin 224) : img X n c p q = X (ix4 n p q c) :=
  dif_pos ⟨p.isLt, q.isLt⟩

end Cert.Boxes

end
-- ==== Proof.KernelArray.lean ====
/-
  What the kernel's result array holds after the run: at block `i`, row `j` and column `l`, the answer of image `8 i + j`.
-/
module

public import proofs.«01_k».proof.Proof.KernelBlock
public import proofs.«01_k».proof.Proof.Tables
public import proofs.«01_k».proof.Proof.Entry
public import proofs.«01_k».proof.Proof.Images
public import proofs.«01_k».proof.Proof.Gen.KernelIdeal.Value

@[expose] public section

set_option maxRecDepth 16384

noncomputable section

namespace Cert.Boxes

open Cert.KernelIdeal Cert.KernelIdeal.Gen Idealize.ShloMosaic.ValueIdx
open Idealize.ShloMosaic hiding ix1 ix2 ix3 ix4 ix5
open Idealize.ShloMosaic.TcCoe Idealize.SL.Sem

/-- The number of an image out of its block and its row. -/
abbrev number (i j : Fin 8) : Fin 64 := ⟨8 * i.val + j.val, by have := i.isLt; have := j.isLt; omega⟩

/-- The answers of all images, in eight blocks of eight. -/
def answers (X : S64x224x224x3.Idx → EReal) : S8x8x45.Idx → EReal := fun i => answer (img X (number (i 0) (i 1))) (i 2)

variable (m : (ℓ : Loc nD τ sig) → Buf (Elt Ideal) ℓ) (c : Dev nD)

/-- Entry `(i, p)` of a constant matrix, by its flat position. -/
theorem flat_at {R n : ℕ} {α : Type} (f : Fin (R * n) → α) (e : (⟨2, ![R, n]⟩ : Shape).numel = R * n) (i : Fin R) (p : Fin n) :
    f (((⟨2, ![R, n]⟩ : Shape).rowMajor (ix2 i p)).cast e) = f ⟨i.val * n + p.val, flat_lt i p⟩ := by
  congr 1
  apply Fin.ext
  show ((⟨2, ![R, n]⟩ : Shape).rowMajor (ix2 i p)).val = _
  rw [Shape.rowMajor_val_two]
  rfl

theorem idx0 : ∀ t : Fin cfg0.N, win0_0.index t = ![(grid0.coords t 0).val, 0, 0, 0] := (by decide +kernel : ∀ t : Fin grid0.N, _)

theorem idx16 : ∀ t : Fin cfg0.N, win0_16.index t = ![(grid0.coords t 0).val, 0, 0] := (by decide +kernel : ∀ t : Fin grid0.N, _)

/-- The point's coordinate as a block number. -/
abbrev blockOf (t : Fin cfg0.N) : Fin 8 := ⟨(grid0.coords t 0).val, (grid0.coords t 0).isLt⟩

/-- The image block of a point. -/
theorem images_at (t : Fin cfg0.N) (j : Fin 8) (ch : Fin 3) (p q : Fin 224) :
    (iblk m c 0 t : S8x3x224x224.Idx → EReal) (ix4 j ch p q) =
      img (m ((c : Thread nD τ).loc main_arg0)) (number (blockOf t) j) ch p q := by
  rw [img_at]
  have e : (iblk m c 0 t : S8x3x224x224.Idx → EReal) (ix4 j ch p q) =
      (V m c main_v0 : S64x3x224x224.Idx → EReal) (ix4 (number (blockOf t) j) ch p q) := by
    have := idx0 t
    blk_simp [iblk]
    blk_ext [idx0 t]
    exact (Nat.add_comm _ _).trans (by rw [Nat.mul_comm]; exact Nat.add_comm _ _)
  rw [e, V_image]
  refine congrArg (m ((c : Thread nD τ).loc main_arg0) : S64x224x224x3.Idx → EReal) (funext fun a => ?_)
  match a with
  | ⟨0, _⟩ => rfl
  | ⟨1, _⟩ => rfl
  | ⟨2, _⟩ => rfl
  | ⟨3, _⟩ => rfl

/-- The constants' blocks do not move. -/
theorem idxs : ∀ t : Fin cfg0.N, win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] :=
  (by decide +kernel : ∀ t : Fin grid0.N, _)

theorem block_G3 (t : Fin cfg0.N) : (iblk m c 1 t : S75x224.Idx → EReal) = (V m c main_cst : S75x224.Idx → EReal) := by
  funext y
  blk_simp [iblk]
  blk_ext [idxs t]

theorem block_S3 (t : Fin cfg0.N) : (iblk m c 2 t : S75x224.Idx → EReal) = (V m c main_cst_0 : S75x224.Idx → EReal) := by
  funext y
  blk_simp [iblk]
  blk_ext [idxs t]

theorem block_N3 (t : Fin cfg0.N) : (iblk m c 3 t : S75x75.Idx → EReal) = (V m c main_cst_1 : S75x75.Idx → EReal) := by
  funext y
  blk_simp [iblk]
  blk_ext [idxs t]

theorem block_G5 (t : Fin cfg0.N) : (iblk m c 4 t : S45x224.Idx → EReal) = (V m c main_cst_2 : S45x224.Idx → EReal) := by
  funext y
  blk_simp [iblk]
  blk_ext [idxs t]

theorem block_S5 (t : Fin cfg0.N) : (iblk m c 5 t : S45x224.Idx → EReal) = (V m c main_cst_3 : S45x224.Idx → EReal) := by
  funext y
  blk_simp [iblk]
  blk_ext [idxs t]

theorem block_N5 (t : Fin cfg0.N) : (iblk m c 6 t : S45x45.Idx → EReal) = (V m c main_cst_4 : S45x45.Idx → EReal) := by
  funext y
  blk_simp [iblk]
  blk_ext [idxs t]

theorem block_G7 (t : Fin cfg0.N) : (iblk m c 7 t : S32x224.Idx → EReal) = (V m c main_cst_5 : S32x224.Idx → EReal) := by
  funext y
  blk_simp [iblk]
  blk_ext [idxs t]

theorem block_S7 (t : Fin cfg0.N) : (iblk m c 8 t : S32x224.Idx → EReal) = (V m c main_cst_6 : S32x224.Idx → EReal) := by
  funext y
  blk_simp [iblk]
  blk_ext [idxs t]

theorem block_N7 (t : Fin cfg0.N) : (iblk m c 9 t : S32x32.Idx → EReal) = (V m c main_cst_7 : S32x32.Idx → EReal) := by
  funext y
  blk_simp [iblk]
  blk_ext [idxs t]

theorem block_G9 (t : Fin cfg0.N) : (iblk m c 10 t : S25x224.Idx → EReal) = (V m c main_cst_8 : S25x224.Idx → EReal) := by
  funext y
  blk_simp [iblk]
  blk_ext [idxs t]

theorem block_S9 (t : Fin cfg0.N) : (iblk m c 11 t : S25x224.Idx → EReal) = (V m c main_cst_9 : S25x224.Idx → EReal) := by
  funext y
  blk_simp [iblk]
  blk_ext [idxs t]

theorem block_N9 (t : Fin cfg0.N) : (iblk m c 12 t : S25x25.Idx → EReal) = (V m c main_cst_10 : S25x25.Idx → EReal) := by
  funext y
  blk_simp [iblk]
  blk_ext [idxs t]

theorem block_G11 (t : Fin cfg0.N) : (iblk m c 13 t : S21x224.Idx → EReal) = (V m c main_cst_11 : S21x224.Idx → EReal) := by
  funext y
  blk_simp [iblk]
  blk_ext [idxs t]

theorem block_S11 (t : Fin cfg0.N) : (iblk m c 14 t : S21x224.Idx → EReal) = (V m c main_cst_12 : S21x224.Idx → EReal) := by
  funext y
  blk_simp [iblk]
  blk_ext [idxs t]

theorem block_N11 (t : Fin cfg0.N) : (iblk m c 15 t : S21x21.Idx → EReal) = (V m c main_cst_13 : S21x21.Idx → EReal) := by
  funext y
  blk_simp [iblk]
  blk_ext [idxs t]

/-- The constants of box size 3, as the body finds them. -/
theorem consts3 (t : Fin cfg0.N) : Good 3 0 75 224 ⟨(iblk m c 1 t : S75x224.Idx → EReal), (iblk m c 2 t : S75x224.Idx → EReal), (iblk m c 3 t : S75x75.Idx → EReal)⟩ :=
  good_of_words geo3 isG3 isS3 isN3
    (fun i p => by rw [block_G3 m c t, V_G3 m c]; exact congrArg (Ideal.ofBits .f32) (flat_at lit0 rfl i p))
    (fun i p => by rw [block_S3 m c t, V_S3 m c]; exact congrArg (Ideal.ofBits .f32) (flat_at lit1 rfl i p))
    (fun i j => by rw [block_N3 m c t, V_N3 m c]; exact congrArg (Ideal.ofBits .f32) (flat_at lit2 rfl i j))

/-- The constants of box size 5, as the body finds them. -/
theorem consts5 (t : Fin cfg0.N) : Good 5 0 45 224 ⟨(iblk m c 4 t : S45x224.Idx → EReal), (iblk m c 5 t : S45x224.Idx → EReal), (iblk m c 6 t : S45x45.Idx → EReal)⟩ :=
  good_of_words geo5 isG5 isS5 isN5
    (fun i p => by rw [block_G5 m c t, V_G5 m c]; exact congrArg (Ideal.ofBits .f32) (flat_at lit3 rfl i p))
    (fun i p => by rw [block_S5 m c t, V_S5 m c]; exact congrArg (Ideal.ofBits .f32) (flat_at lit4 rfl i p))
    (fun i j => by rw [block_N5 m c t, V_N5 m c]; exact congrArg (Ideal.ofBits .f32) (flat_at lit5 rfl i j))

/-- The constants of box size 7, as the body finds them. -/
theorem consts7 (t : Fin cfg0.N) : Good 7 0 32 224 ⟨(iblk m c 7 t : S32x224.Idx → EReal), (iblk m c 8 t : S32x224.Idx → EReal), (iblk m c 9 t : S32x32.Idx → EReal)⟩ :=
  good_of_words geo7 isG7 isS7 isN7
    (fun i p => by rw [block_G7 m c t, V_G7 m c]; exact congrArg (Ideal.ofBits .f32) (flat_at lit6 rfl i p))
    (fun i p => by rw [block_S7 m c t, V_S7 m c]; exact congrArg (Ideal.ofBits .f32) (flat_at lit7 rfl i p))
    (fun i j => by rw [block_N7 m c t, V_N7 m c])

/-- The constants of box size 9, as the body finds them. -/
theorem consts9 (t : Fin cfg0.N) : Good 9 0 25 224 ⟨(iblk m c 10 t : S25x224.Idx → EReal), (iblk m c 11 t : S25x224.Idx → EReal), (iblk m c 12 t : S25x25.Idx → EReal)⟩ :=
  good_of_words geo9 isG9 isS9 isN9
    (fun i p => by rw [block_G9 m c t, V_G9 m c]; exact congrArg (Ideal.ofBits .f32) (flat_at lit8 rfl i p))
    (fun i p => by rw [block_S9 m c t, V_S9 m c]; exact congrArg (Ideal.ofBits .f32) (flat_at lit9 rfl i p))
    (fun i j => by rw [block_N9 m c t, V_N9 m c]; exact congrArg (Ideal.ofBits .f32) (flat_at lit10 rfl i j))

/-- The constants of box size 11, as the body finds them. -/
theorem consts11 (t : Fin cfg0.N) : Good 11 3 21 224 ⟨(iblk m c 13 t : S21x224.Idx → EReal), (iblk m c 14 t : S21x224.Idx → EReal), (iblk m c 15 t : S21x21.Idx → EReal)⟩ :=
  good_of_words geo11 isG11 isS11 isN11
    (fun i p => by rw [block_G11 m c t, V_G11 m c]; exact congrArg (Ideal.ofBits .f32) (flat_at lit11 rfl i p))
    (fun i p => by rw [block_S11 m c t, V_S11 m c]; exact congrArg (Ideal.ofBits .f32) (flat_at lit12 rfl i p))
    (fun i j => by rw [block_N11 m c t, V_N11 m c]; exact congrArg (Ideal.ofBits .f32) (flat_at lit13 rfl i j))

/-- The result array after the run: the answers of all images. -/
theorem array_eq : (dats m 0 c).arrAt 16 cfg0.N = answers (m ((c : Thread nD τ).loc main_arg0)) := by
  refine (dats m 0 c).arrAt_eq_of_covers 16 _ (by decide +kernel) fun t _ y => ?_
  blk_simp
  rw [after0_16]
  have ey : (y : S1x8x45.Idx) = ix3 0 (y 1) (y 2) := by
    funext a
    match a with
    | ⟨0, _⟩ => exact Subsingleton.elim (α := Fin 1) _ _
    | ⟨1, _⟩ => rfl
    | ⟨2, _⟩ => rfl
  have e : (((cfg0.win 16).blk t).view.emb y : S8x8x45.Idx) = ix3 (blockOf t) (y 1) (y 2) := by
    blk_ext [idx16 t]
  refine Eq.trans ?_ (congrArg (answers (m ((c : Thread nD τ).loc main_arg0))) e).symm
  refine (congrArg _ ey).trans ?_
  exact block_at (consts3 m c t) (consts5 m c t) (consts7 m c t) (consts9 m c t) (consts11 m c t)
    (x := fun j => img (m ((c : Thread nD τ).loc main_arg0)) (number (blockOf t) j)) (images_at m c t) (y 1) (y 2)

end Cert.Boxes

end
-- ==== Proof.RefDef.lean ====
/-
  The reference's operations for one box size, at any sizes: the patches, the differences from their centres, the three tests, the
  counts, the histogram and the three statistics.
-/
module

public import Idealize.ShloMosaic.PureOps.Ideal
public import Idealize.ShloMosaic.Lib.Claim

@[expose] public section

noncomputable section

namespace Cert.Boxes

open Idealize.ShloMosaic

/-- The shape without axes. -/
abbrev D0 : Shape := ⟨0, ![]⟩
/-- A shape with one axis. -/
abbrev D1 (a : ℕ) : Shape := ⟨1, ![a]⟩
/-- A shape with two axes. -/
abbrev D2 (a b : ℕ) : Shape := ⟨2, ![a, b]⟩
/-- A shape with three axes. -/
abbrev D3 (a b c : ℕ) : Shape := ⟨3, ![a, b, c]⟩
/-- A shape with four axes. -/
abbrev D4 (a b c d : ℕ) : Shape := ⟨4, ![a, b, c, d]⟩
/-- A shape with five axes. -/
abbrev D5 (a b c d e : ℕ) : Shape := ⟨5, ![a, b, c, d, e]⟩
/-- A shape with six axes. -/
abbrev D6 (a b c d e f : ℕ) : Shape := ⟨6, ![a, b, c, d, e, f]⟩

/-- The shape facts of a box size `b`: `R` patches a side, the side padded to `W` by `t` before and `u` after, the centre at `m`;
    `P` patches in all, `L` pixels a patch; `T` histogram entries and `M` counts of all images. -/
structure Fits (b t u m R W P L T M : ℕ) : Prop where
  pads : (D4 64 224 224 3).Pads ![0, t, t, 0] ![0, u, u, 0] ![0, 0, 0, 0] (D4 64 W W 3)
  one : 0 < D0.numel
  split : (D4 64 W W 3).ShapeCasts (D6 64 R b R b 3)
  swap : (D6 64 R b R b 3).Transposes [0, 1, 3, 2, 4, 5] (D6 64 R R b b 3)
  join : (D6 64 R R b b 3).ShapeCasts (D5 64 P b b 3)
  slice : (D5 64 P b b 3).Slices ![0, 0, m, m, 0] (D5 64 P 1 1 3)
  squeeze : (D5 64 P 1 1 3).ShapeCasts (D3 64 P 3)
  wide : (D3 64 P 3).BroadcastsInDim (D5 64 P 1 1 3) ![0, 1, 4]
  wider : (D5 64 P 1 1 3).BroadcastsInDim (D5 64 P b b 3) ![0, 1, 2, 3, 4]
  chan : (D5 64 P b b 3).ReducesTo [4] (D4 64 P b b)
  box : D0.BroadcastsInDim (D4 64 P b b) ![]
  bit : 1 < 32
  pixels : (D4 64 P b b).ReducesTo [2, 3] (D2 64 P)
  col : (D1 64).BroadcastsInDim (D2 64 1) ![0]
  col0 : D0.BroadcastsInDim (D2 64 1) ![]
  rowsP : (D2 64 1).BroadcastsInDim (D2 64 P) ![0, 1]
  fillP : D0.BroadcastsInDim (D2 64 P) ![]
  flat : (D2 64 P).ShapeCasts (D1 M)
  fillM : D0.BroadcastsInDim (D1 M) ![]
  colM : (D1 M).BroadcastsInDim (D2 M 1) ![0]
  fillT : D0.BroadcastsInDim (D1 T) ![]
  table : (D1 T).ShapeCasts (D2 64 L)
  fillL : D0.BroadcastsInDim (D2 64 L) ![]
  bins : (D2 64 L).ReducesTo [1] (D1 64)
  rowsL : (D2 64 1).BroadcastsInDim (D2 64 L) ![0, 1]
  bin0 : D0.BroadcastsInDim (D1 L) ![]
  bin1 : (D1 L).BroadcastsInDim (D2 1 L) ![1]
  colsL : (D2 1 L).BroadcastsInDim (D2 64 L) ![0, 1]
  patches : (D2 64 P).ReducesTo [1] (D1 64)
  fill : D0.BroadcastsInDim (D1 64) ![]

variable {b t u m R W P L T M : ℕ} (h : Fits b t u m R W P L T M)

/-- A float constant. -/
abbrev kf (w : BitVec 32) : FVec Ideal D0 .f32 := constant D0 .f32 w
/-- An integer constant. -/
abbrev ki (w : BitVec 32) : IVec D0 32 := constantI D0 32 w

include h in
/-- The patches of all images. -/
def patchesR (X : FVec Ideal (D4 64 224 224 3) .f32) : FVec Ideal (D5 64 P b b 3) .f32 :=
  shapeCast _ (transpose (D6 64 R R b b 3) [0, 1, 3, 2, 4, 5] (shapeCast (D6 64 R b R b 3) (pad (D4 64 W W 3) ![0, t, t, 0] ![0, u, u, 0] ![0, 0, 0, 0] X
    (sitofp .f32 (ki 0#32)) h.pads h.one) h.split) h.swap) h.join

include h in
/-- The differences of the patches' pixels from the centres. -/
def diffsR (Y : FVec Ideal (D5 64 P b b 3) .f32) : FVec Ideal (D5 64 P b b 3) .f32 :=
  subf Y (broadcastInDim (D5 64 P b b 3) ![0, 1, 2, 3, 4] h.wider (broadcastInDim (D5 64 P 1 1 3) ![0, 1, 4] h.wide
    (shapeCast (D3 64 P 3) (extractStridedSlice (D5 64 P 1 1 3) ![0, 0, m, m, 0] Y h.slice) h.squeeze)))

/-- The largest channel distance. -/
def chebR (D : FVec Ideal (D5 64 P b b 3) .f32) : FVec Ideal (D4 64 P b b) .f32 :=
  Host.reduce FloatOps.maximumf (Host.absf D) (kf 0xFF800000#32) h.chan h.one

/-- The norm of a pixel. -/
def euclR (Y : FVec Ideal (D5 64 P b b 3) .f32) : FVec Ideal (D4 64 P b b) .f32 :=
  Host.sqrt (Host.reduceAdd (mulf Y Y) (kf 0x00000000#32) h.chan h.one)

/-- The sum of the channel distances. -/
def manhR (D : FVec Ideal (D5 64 P b b 3) .f32) : FVec Ideal (D4 64 P b b) .f32 :=
  Host.reduceAdd (Host.absf D) (kf 0x00000000#32) h.chan h.one

/-- The number of pixels of each patch whose distance is at most the box size. -/
def countsR (wb : BitVec 32) (E : FVec Ideal (D4 64 P b b) .f32) : IVec (D2 64 P) 32 :=
  Host.reduce IntOp.addi (extui 32 (cmpf .ole E (broadcastInDim (D4 64 P b b) ![] h.box (kf wb))) h.bit) (ki 0#32) h.pixels h.one

/-- Where each count falls in the histograms of all images. -/
def slotsR (wl wl1 : BitVec 32) (C : IVec (D2 64 P) 32) : IVec (D1 M) 32 :=
  shapeCast _ (addi (broadcastInDim (D2 64 P) ![0, 1] h.rowsP (muli (broadcastInDim (D2 64 1) ![0] h.col (iotaInDim (D1 64) 32 0))
    (broadcastInDim (D2 64 1) ![] h.col0 (ki wl)))) (minsi C (broadcastInDim (D2 64 P) ![] h.fillP (ki wl1)))) h.flat

/-- The histograms of the counts below the cap, divided by the number of patches. -/
def sharesR (d : ScatterDims (D1 T) (D2 M 1) (D1 M)) (wl wt wp : BitVec 32) (C : IVec (D2 64 P) 32) (J : IVec (D1 M) 32) :
    FVec Ideal (D2 64 L) .f32 :=
  Host.divf (shapeCast _ (Host.scatterAdd d (broadcastInDim (D1 T) ![] h.fillT (kf 0x00000000#32))
    (broadcastInDim (D2 M 1) ![0] h.colM (select (cmpi .slt J (broadcastInDim (D1 M) ![] h.fillM (ki 0#32)))
      (addi J (broadcastInDim (D1 M) ![] h.fillM (ki wt))) J))
    (shapeCast _ (uitofp .f32 (cmpi .slt C (broadcastInDim (D2 64 P) ![] h.fillP (ki wl)))) h.flat)) h.table)
    (broadcastInDim (D2 64 L) ![] h.fillL (kf wp))

/-- The histograms divided by their sums. -/
def probsR (S : FVec Ideal (D2 64 L) .f32) : FVec Ideal (D2 64 L) .f32 :=
  Host.divf S (broadcastInDim (D2 64 L) ![0, 1] h.rowsL (broadcastInDim (D2 64 1) ![0] h.col
    (Host.reduceAdd S (kf 0x00000000#32) h.bins h.one)))

/-- One more than the number of an entry. -/
def nextR : FVec Ideal (D1 L) .f32 :=
  addf (broadcastInDim (D1 L) ![] h.bin0 (kf 0x3F800000#32)) (sitofp .f32 (iotaInDim (D1 L) 32 0))

/-- A vector over the entries, for every image. -/
def everyR (v : FVec Ideal (D1 L) .f32) : FVec Ideal (D2 64 L) .f32 :=
  broadcastInDim (D2 64 L) ![0, 1] h.colsL (broadcastInDim (D2 1 L) ![1] h.bin1 v)

/-- The sums over the entries. -/
def overR (S : FVec Ideal (D2 64 L) .f32) : FVec Ideal (D1 64) .f32 := Host.reduceAdd S (kf 0x00000000#32) h.bins h.one

/-- The first statistic. -/
def fdR (Q : FVec Ideal (D2 64 L) .f32) (v : FVec Ideal (D1 L) .f32) : FVec Ideal (D1 64) .f32 := overR h (Host.divf Q (everyR h v))

/-- The mean count plus one. -/
def meanR (Q : FVec Ideal (D2 64 L) .f32) (v : FVec Ideal (D1 L) .f32) : FVec Ideal (D1 64) .f32 := overR h (mulf Q (everyR h v))

/-- The second statistic, from the mean's square `s`. -/
def lacR (Q : FVec Ideal (D2 64 L) .f32) (v : FVec Ideal (D1 L) .f32) (s : FVec Ideal (D1 64) .f32) : FVec Ideal (D1 64) .f32 :=
  Host.divf (subf (overR h (mulf Q (everyR h (mulf v v)))) s) s

/-- The third statistic. -/
def pqR (wl wp : BitVec 32) (C : IVec (D2 64 P) 32) : FVec Ideal (D1 64) .f32 :=
  Host.divf (Host.reduceAdd (uitofp .f32 (cmpf .oge (Host.divf (sitofp .f32 C) (broadcastInDim (D2 64 P) ![] h.fillP (kf wl)))
    (broadcastInDim (D2 64 P) ![] h.fillP (kf 0x3F17BE77#32)))) (kf 0x00000000#32) h.patches h.one)
    (broadcastInDim (D1 64) ![] h.fill (kf wp))

/-- What the three tests compare with the box size: the distances and the norm. -/
def testR (d : Fin 3) (X : FVec Ideal (D4 64 224 224 3) .f32) : FVec Ideal (D4 64 P b b) .f32 :=
  match d with
  | 0 => chebR h (diffsR h (patchesR h X))
  | 1 => euclR h (patchesR h X)
  | 2 => manhR h (diffsR h (patchesR h X))

/-- The words of the reference for a box size: of the box size, the cap and the number of patches as floats; of the cap, the last
    entry and the number of entries of all images as integers. -/
structure RefWords where
  box : BitVec 32
  cap : BitVec 32
  num : BitVec 32
  icap : BitVec 32
  ilast : BitVec 32
  itotal : BitVec 32

/-- The normalised histograms of counts. -/
def probsOfR (d : ScatterDims (D1 T) (D2 M 1) (D1 M)) (w : RefWords) (C : IVec (D2 64 P) 32) : FVec Ideal (D2 64 L) .f32 :=
  probsR h (sharesR h d w.icap w.itotal w.num C (slotsR h w.icap w.ilast C))

/-- The three statistics of counts. -/
def statR (d : ScatterDims (D1 T) (D2 M 1) (D1 M)) (w : RefWords) (k : Fin 3) (C : IVec (D2 64 P) 32) : FVec Ideal (D1 64) .f32 :=
  match k with
  | 0 => fdR h (probsOfR h d w C) (nextR h)
  | 1 => lacR h (probsOfR h d w C) (nextR h) (mulf (meanR h (probsOfR h d w C) (nextR h)) (meanR h (probsOfR h d w C) (nextR h)))
  | 2 => pqR h w.cap w.num C

/-- A vector over the images as a column. -/
def columnR (v : FVec Ideal (D1 64) .f32) : FVec Ideal (D2 64 1) .f32 := broadcastInDim (D2 64 1) ![0] h.col v

end Cert.Boxes

end
-- ==== Proof.RefPatch.lean ====
/-
  The reference's patches, read pixel by pixel, and its counts: the number of pixels of a patch that pass a test.
-/
module

public import proofs.«01_k».proof.Proof.RefDef
public import proofs.«01_k».proof.Proof.Images
public import proofs.«01_k».proof.Proof.RowRead
public import Idealize.ShloMosaic.Lib.ValueIdxRank6
public import Idealize.ShloMosaic.Lib.Pipeline.Value
public import Idealize.ShloMosaic.Lib.Pointwise.Reduce
public import Idealize.ShloMosaic.Lib.Pointwise.ShapeOps
public import Idealize.ShloMosaic.Lib.Routing.Ops

@[expose] public section

set_option maxRecDepth 16384

noncomputable section

namespace Cert.Boxes

open Idealize.ShloMosaic.ValueIdx
open Idealize.ShloMosaic hiding ix1 ix2 ix3 ix4 ix5 ix6
open scoped BigOperators

/-- How the sizes of `Fits` hang together. -/
structure Sized (b t u m R W P L T M : ℕ) : Prop where
  pos : 0 < b
  mid : m = (b - 1) / 2
  side : W = R * b
  whole : W = t + 224 + u
  num : P = R * R
  some : 0 < R
  cap : L = b * b
  total : T = 64 * L
  all : M = 64 * P
  cen : ∀ i : Fin R, Real? b t 224 i m
  small : T + M < 2 ^ 30

variable {b t u m R W P L T M : ℕ} (h : Fits b t u m R W P L T M) (e : Sized b t u m R W P L T M)

/-- A patch's number from its row and column. -/
def patchNo (e : Sized b t u m R W P L T M) (i j : Fin R) : Fin P := ⟨i.val * R + j.val, by
  rw [e.num]
  calc i.val * R + j.val < i.val * R + R := by have := j.isLt; omega
    _ = (i.val + 1) * R := by ring
    _ ≤ R * R := Nat.mul_le_mul_right _ i.isLt⟩

theorem side_lt (e : Sized b t u m R W P L T M) (i : Fin R) (v : Fin b) : i.val * b + v.val < W := by
  rw [e.side]
  calc i.val * b + v.val < i.val * b + b := by have := v.isLt; omega
    _ = (i.val + 1) * b := by ring
    _ ≤ R * b := Nat.mul_le_mul_right _ i.isLt

/-- A pixel of a patch: an image's where it is real and zero where it is padded. -/
def pix (b t : ℕ) (x : Image) (i j v w : ℕ) : Pixel :=
  if Real? b t 224 i v ∧ Real? b t 224 j w then at_ x (i * b + v - t) (j * b + w - t) else 0

/-- The padded array at a pixel. -/
theorem padded_at (X : Images) (n : Fin 64) (p q : Fin W) (c : Fin 3) :
    pad (D4 64 W W 3) ![0, t, t, 0] ![0, u, u, 0] ![0, 0, 0, 0] X (sitofp (F := Ideal) .f32 (ki 0#32)) h.pads h.one (ix4 n p q c) =
      if (t ≤ p.val ∧ p.val < 224 + t) ∧ (t ≤ q.val ∧ q.val < 224 + t) then img X n c (p.val - t) (q.val - t) else 0 := by
  rw [pad_apply]
  by_cases H : (t ≤ p.val ∧ p.val < 224 + t) ∧ (t ≤ q.val ∧ q.val < 224 + t)
  · rw [if_pos H, dif_pos]
    · unfold img
      rw [dif_pos (by omega)]
      refine congrArg X (funext fun a => Fin.ext ?_)
      match a with
      | ⟨0, _⟩ => show (n.val - 0) / (0 + 1) = n.val; simp
      | ⟨1, _⟩ => show (p.val - t) / (0 + 1) = p.val - t; simp
      | ⟨2, _⟩ => show (q.val - t) / (0 + 1) = q.val - t; simp
      | ⟨3, _⟩ => show (c.val - 0) / (0 + 1) = c.val; simp
    · intro a
      match a with
      | ⟨0, _⟩ => show 0 ≤ n.val ∧ (n.val - 0) % (0 + 1) = 0 ∧ (n.val - 0) / (0 + 1) < 64; have := n.isLt; omega
      | ⟨1, _⟩ => show t ≤ p.val ∧ (p.val - t) % (0 + 1) = 0 ∧ (p.val - t) / (0 + 1) < 224; omega
      | ⟨2, _⟩ => show t ≤ q.val ∧ (q.val - t) % (0 + 1) = 0 ∧ (q.val - t) / (0 + 1) < 224; omega
      | ⟨3, _⟩ => show 0 ≤ c.val ∧ (c.val - 0) % (0 + 1) = 0 ∧ (c.val - 0) / (0 + 1) < 3; have := c.isLt; omega
  · rw [if_neg H, dif_neg]
    · show (((0#32 : BitVec 32).toInt : ℝ) : EReal) = 0
      simp
    · intro hin
      have h1 : t ≤ p.val ∧ (p.val - t) % (0 + 1) = 0 ∧ (p.val - t) / (0 + 1) < 224 := hin (1 : Fin 4)
      have h2 : t ≤ q.val ∧ (q.val - t) % (0 + 1) = 0 ∧ (q.val - t) / (0 + 1) < 224 := hin (2 : Fin 4)
      omega

/-- A pixel of a patch of an image. -/
theorem patch_at (X : Images) (n : Fin 64) (i j : Fin R) (v w : Fin b) (c : Fin 3) :
    patchesR h X (ix5 n (patchNo e i j) v w c) = pix b t (img X n) i j v w c := by
  unfold patchesR
  refine (shapeCast_apply _ h.join _ (ix6 n i j v w c) ?_).trans ?_
  · rw [Shape.rowMajor_val_six, Shape.rowMajor_val_five]
    show ((((n.val * R + i.val) * R + j.val) * b + v.val) * b + w.val) * 3 + c.val =
      (((n.val * P + (i.val * R + j.val)) * b + v.val) * b + w.val) * 3 + c.val
    rw [e.num]; ring
  refine (transpose_apply _ _ h.swap _ (ix6 n i v j w c) fun a => ?_).trans ?_
  · match a with
    | ⟨0, _⟩ => rfl
    | ⟨1, _⟩ => rfl
    | ⟨2, _⟩ => rfl
    | ⟨3, _⟩ => rfl
    | ⟨4, _⟩ => rfl
    | ⟨5, _⟩ => rfl
  refine (shapeCast_apply _ h.split _ (ix4 n ⟨i.val * b + v.val, side_lt e i v⟩ ⟨j.val * b + w.val, side_lt e j w⟩ c) ?_).trans ?_
  · rw [Shape.rowMajor_val_six, Shape.rowMajor_val_four]
    show ((n.val * W + (i.val * b + v.val)) * W + (j.val * b + w.val)) * 3 + c.val =
      ((((n.val * R + i.val) * b + v.val) * R + j.val) * b + w.val) * 3 + c.val
    rw [e.side]; ring
  refine (padded_at h X n _ _ c).trans ?_
  unfold pix
  by_cases H : Real? b t 224 i v ∧ Real? b t 224 j w
  · rw [if_pos H, if_pos H]; rfl
  · rw [if_neg H, if_neg H]; rfl

/-- The centre's place in its patch. -/
theorem mid_lt (e : Sized b t u m R W P L T M) : m < b := by have := e.mid; have := e.pos; omega

include e in
/-- The centre of a patch. -/
theorem pix_mid (x : Image) (i j : Fin R) : pix b t x i j m m = at_ x (mid b t i) (mid b t j) := by
  unfold pix mid
  rw [if_pos ⟨e.cen i, e.cen j⟩, e.mid]

/-- The difference of a pixel from its patch's centre. -/
theorem diff_at (X : Images) (n : Fin 64) (i j : Fin R) (v w : Fin b) (c : Fin 3) :
    diffsR h (patchesR h X) (ix5 n (patchNo e i j) v w c) =
      pix b t (img X n) i j v w c - at_ (img X n) (mid b t i) (mid b t j) c := by
  unfold diffsR
  rw [← pix_mid e, ← patch_at h e X n i j v w c]
  refine congrArg (fun z => patchesR h X (ix5 n (patchNo e i j) v w c) - z) ?_
  refine (broadcastInDim_apply _ h.wider _ _ (ix5 n (patchNo e i j) 0 0 c) fun a => ?_).trans ?_
  · match a with
    | ⟨0, _⟩ => rfl
    | ⟨1, _⟩ =>
      show (patchNo e i j).val = if P = 1 then 0 else (patchNo e i j).val
      have := (patchNo e i j).isLt
      split <;> omega
    | ⟨2, _⟩ => rfl
    | ⟨3, _⟩ => rfl
    | ⟨4, _⟩ => rfl
  refine (broadcastInDim_apply _ h.wide _ _ (ix3 n (patchNo e i j) c) fun a => ?_).trans ?_
  · match a with
    | ⟨0, _⟩ => rfl
    | ⟨1, _⟩ =>
      show (patchNo e i j).val = if P = 1 then 0 else (patchNo e i j).val
      have := (patchNo e i j).isLt
      split <;> omega
    | ⟨2, _⟩ => rfl
  refine (shapeCast_apply _ h.squeeze _ (ix5 n (patchNo e i j) 0 0 c) ?_).trans ?_
  · rw [Shape.rowMajor_val_five, Shape.rowMajor_val_three]
    show (((n.val * P + (patchNo e i j).val) * 1 + 0) * 1 + 0) * 3 + c.val = (n.val * P + (patchNo e i j).val) * 3 + c.val
    ring
  refine (extractStridedSlice_apply _ _ h.slice _ (ix5 n (patchNo e i j) ⟨m, mid_lt e⟩ ⟨m, mid_lt e⟩ c) fun a => ?_).trans ?_
  · match a with
    | ⟨0, _⟩ => exact (Nat.zero_add _).symm
    | ⟨1, _⟩ => exact (Nat.zero_add _).symm
    | ⟨2, _⟩ => rfl
    | ⟨3, _⟩ => rfl
    | ⟨4, _⟩ => exact (Nat.zero_add _).symm
  exact patch_at h e X n i j _ _ c

/-! ## The tests -/

/-- A maximum over three channels, from minus infinity. -/
theorem fold_max3 (f : Fin 3 → EReal) : (Finset.univ : Finset (Fin 3)).fold (FloatOps.maximumf (F := Ideal) (φ := .f32)) (⊥ : EReal) f =
    max (max (f 0) (f 1)) (f 2) := by
  rw [show (Finset.univ : Finset (Fin 3)) = {0, 1, 2} from rfl, Finset.fold_insert (by decide), Finset.fold_insert (by decide), Finset.fold_singleton]
  show max (f 0) (max (f 1) (max (f 2) ⊥)) = _
  rw [max_bot_right, max_assoc]

end Cert.Boxes

end
-- ==== Proof.RefCount.lean ====
/-
  The reference's counts: the number of pixels of a patch that pass a test.
-/
module

public import proofs.«01_k».proof.Proof.RefPatch

@[expose] public section

set_option maxRecDepth 16384

noncomputable section

namespace Cert.Boxes

open Idealize.ShloMosaic.ValueIdx
open Idealize.ShloMosaic hiding ix1 ix2 ix3 ix4 ix5 ix6
open scoped BigOperators

variable {b t u m R W P L T M : ℕ} (h : Fits b t u m R W P L T M) (e : Sized b t u m R W P L T M)

/-- A square is not negative. -/
theorem square_nonneg (a : EReal) : 0 ≤ a * a := by
  induction a with
  | bot => simp
  | top => simp
  | coe r => rw [← EReal.coe_mul]; exact_mod_cast mul_self_nonneg r

/-- The square root of a sum that is not negative is at most `b` exactly where the sum is at most the square of `b`. -/
theorem sqrt_le (s : EReal) (hs : 0 ≤ s) (b : ℕ) : Ideal.sqrt s ≤ ((b : ℝ) : EReal) ↔ s ≤ ((b : ℝ) : EReal) * ((b : ℝ) : EReal) := by
  induction s with
  | bot => simp at hs
  | top =>
    rw [← EReal.coe_mul]
    show (⊤ : EReal) ≤ _ ↔ _
    simp only [top_le_iff, EReal.coe_ne_top]
  | coe r =>
    have hr : 0 ≤ r := by exact_mod_cast hs
    show (if r < 0 then (⊥ : EReal) else (Real.sqrt r : EReal)) ≤ _ ↔ _
    rw [if_neg (not_lt.mpr hr), ← EReal.coe_mul, EReal.coe_le_coe_iff, EReal.coe_le_coe_iff, Real.sqrt_le_left (Nat.cast_nonneg b), sq]

theorem minus_infinity : Ideal.ofBits .f32 0xFF800000#32 = ⊥ := by simp [Ideal.ofBits, Ideal.ieee]

/-- A sum over the channels, at a pixel. -/
theorem sum3_at (D : FVec Ideal (D5 64 P b b 3) .f32) (n : Fin 64) (p : Fin P) (v w : Fin b) :
    Host.reduceAdd D (kf 0x00000000#32) h.chan h.one (ix4 n p v w) =
      D (ix5 n p v w 0) + D (ix5 n p v w 1) + D (ix5 n p v w 2) := by
  refine (Ideal.hostReduceAdd_r5_a4 h.chan D _ _).trans ?_
  rw [Fin.sum_univ_three]
  show Ideal.ofBits .f32 0x00000000#32 + _ = _
  rw [Ideal.ofBits_zero_f32, zero_add]
  rfl

/-- A maximum over the channels, at a pixel. -/
theorem max3_at (D : FVec Ideal (D5 64 P b b 3) .f32) (n : Fin 64) (p : Fin P) (v w : Fin b) :
    Host.reduce FloatOps.maximumf D (kf 0xFF800000#32) h.chan h.one (ix4 n p v w) =
      max (max (D (ix5 n p v w 0)) (D (ix5 n p v w 1))) (D (ix5 n p v w 2)) := by
  rw [Host.reduce_eq_fold]
  refine (Shape.ReducesTo.fold_fiber_r5_a4 h.chan _ _ _ D).trans ?_
  refine Eq.trans ?_ (fold_max3 fun k => D (ix5 n p v w k))
  exact congrArg (fun z => (Finset.univ : Finset (Fin 3)).fold (FloatOps.maximumf (F := Ideal) (φ := .f32)) z fun k => D (ix5 n p v w k)) minus_infinity

/-- A test of the reference at a pixel is the test of `Spec.lean`. -/
theorem test_at (d : Fin 3) (X : Images) (n : Fin 64) (i j : Fin R) (v w : Fin b) :
    (if testR h d X (ix4 n (patchNo e i j) v w) ≤ ((b : ℝ) : EReal) then 1 else 0 : ℕ) =
      near d b (pix b t (img X n) i j v w) (at_ (img X n) (mid b t i) (mid b t j)) := by
  have hd : ∀ c, Host.absf (diffsR h (patchesR h X)) (ix5 n (patchNo e i j) v w c) =
      mag (pix b t (img X n) i j v w c - at_ (img X n) (mid b t i) (mid b t j) c) := fun c => by
    show mag (diffsR h (patchesR h X) (ix5 n (patchNo e i j) v w c)) = _
    rw [diff_at h e]
  match d with
  | 0 =>
    have E : testR h 0 X (ix4 n (patchNo e i j) v w) = _ := (max3_at h _ _ _ _ _)
    rw [E, hd, hd, hd]
    rfl
  | 1 =>
    have E : testR h 1 X (ix4 n (patchNo e i j) v w) = Ideal.sqrt _ := congrArg Ideal.sqrt (sum3_at h _ _ _ _ _)
    have hm : ∀ c, mulf (patchesR h X) (patchesR h X) (ix5 n (patchNo e i j) v w c) =
        pix b t (img X n) i j v w c * pix b t (img X n) i j v w c := fun c => by
      show patchesR h X (ix5 n (patchNo e i j) v w c) * patchesR h X (ix5 n (patchNo e i j) v w c) = _
      rw [patch_at h e]
    rw [E, hm, hm, hm]
    exact if_congr (sqrt_le _ (add_nonneg (add_nonneg (square_nonneg _) (square_nonneg _)) (square_nonneg _)) b) rfl rfl
  | 2 =>
    have E : testR h 2 X (ix4 n (patchNo e i j) v w) = _ := (sum3_at h _ _ _ _ _)
    rw [E, hd, hd, hd]
    rfl

/-- A sum of words that hold naturals holds their sum. -/
theorem fold_words {ι : Type*} (S : Finset ι) (f : ι → ℕ) :
    S.fold IntOp.addi (0#32) (fun i => BitVec.ofNat 32 (f i)) = BitVec.ofNat 32 (∑ i ∈ S, f i) := by
  classical
  induction S using Finset.induction_on with
  | empty => rfl
  | insert a S ha ih =>
    rw [Finset.fold_insert ha, ih, Finset.sum_insert ha, BitVec.ofNat_add]
    rfl

/-- A decided bit widened. -/
theorem bit_word (q : Prop) [Decidable q] : BitVec.setWidth 32 (BitVec.ofBool (decide q)) = BitVec.ofNat 32 (if q then 1 else 0) := by
  by_cases hq : q <;> simp [hq]

/-- The reference's count of a patch. -/
theorem count_at (d : Fin 3) (X : Images) (n : Fin 64) (i j : Fin R) {wb : BitVec 32} (hw : Ideal.ofBits .f32 wb = ((b : ℝ) : EReal)) :
    countsR h wb (testR h d X) (ix2 n (patchNo e i j)) = BitVec.ofNat 32 (near_count d b t 224 (img X n) i j) := by
  unfold countsR
  rw [Host.reduce_eq_fold]
  refine (Shape.ReducesTo.fold_fiber_r4_a23 h.pixels _ _ _ _).trans ?_
  have hv : ∀ v w : Fin b, extui 32 (cmpf .ole (testR h d X) (broadcastInDim (D4 64 P b b) ![] h.box (kf wb))) h.bit (ix4 n (patchNo e i j) v w) =
      BitVec.ofNat 32 (near d b (pix b t (img X n) i j v w) (at_ (img X n) (mid b t i) (mid b t j))) := fun v w => by
    rw [← test_at h e d X n i j v w, ← bit_word, ← hw]
    rfl
  refine (congrArg (Finset.univ.fold IntOp.addi 0#32) (funext fun k : Fin b × Fin b => hv k.1 k.2)).trans ?_
  rw [fold_words, Fintype.sum_prod_type]
  refine congrArg _ ?_
  unfold near_count count
  refine Finset.sum_congr rfl fun v _ => Finset.sum_congr rfl fun w _ => ?_
  unfold pix
  split <;> rfl

end Cert.Boxes

end
-- ==== Proof.RefStat.lean ====
/-
  The reference's statistics: the histogram of the counts of an image, its normalisation and the three statistics.
-/
module

public import proofs.«01_k».proof.Proof.RefCount
public import Idealize.ShloMosaic.Lib.Pointwise.Index
public import Idealize.ShloMosaic.Lib.Routing.OpsPair
public import Idealize.ShloMosaic.Lib.Routing.BitFacts
public import Idealize.ShloMosaic.Lib.WordArith

@[expose] public section

set_option maxRecDepth 16384

noncomputable section

namespace Cert.Boxes

open Idealize.ShloMosaic.ValueIdx
open Idealize.ShloMosaic hiding ix1 ix2 ix3 ix4 ix5 ix6
open scoped BigOperators

/-! ## Words -/

theorem min_word {x y : ℕ} (hx : x < 2 ^ 31) (hy : y < 2 ^ 31) : IntOp.minsi (BitVec.ofNat 32 x) (BitVec.ofNat 32 y) = BitVec.ofNat 32 (min x y) := by
  unfold IntOp.minsi
  rw [Routing.slt_ofNat32 hx hy]
  rcases Nat.lt_or_ge x y with hxy | hxy
  · simp [hxy, Nat.min_eq_left hxy.le]
  · simp [Nat.not_lt.mpr hxy, Nat.min_eq_right hxy]

/-! ## Sums over pairs -/

theorem pair_lt {A B N : ℕ} (hN : N = A * B) (i : Fin A) (j : Fin B) : i.val * B + j.val < N := by
  rw [hN]
  calc i.val * B + j.val < i.val * B + B := by have := j.isLt; omega
    _ = (i.val + 1) * B := by ring
    _ ≤ A * B := Nat.mul_le_mul_right _ i.isLt

/-- A sum over a flat axis is a sum over its two factors. -/
theorem sum_pairs {A B N : ℕ} (hN : N = A * B) (f : Fin N → EReal) :
    ∑ q, f q = ∑ i : Fin A, ∑ j : Fin B, f ⟨i.val * B + j.val, pair_lt hN i j⟩ := by
  subst hN
  rw [← finProdFinEquiv.sum_comp, Fintype.sum_prod_type]
  refine Finset.sum_congr rfl fun i _ => Finset.sum_congr rfl fun j _ => congrArg f (Fin.ext ?_)
  show j.val + B * i.val = i.val * B + j.val
  ring

/-- A sum over the entries of a vector is a sum over its numbers. -/
theorem sum_entries {N : ℕ} (f : (D1 N).Idx → EReal) : ∑ q, f q = ∑ q : Fin N, f (ix1 q) := sum_idx1 f

/-! ## A scatter of scalars into a vector -/

/-- An update of a scatter of scalars lands where its index word says. -/
theorem lands {T M : ℕ} (d : ScatterDims (D1 T) (D2 M 1) (D1 M)) (h0 : d.insertedWindowDims = [0]) (h1 : d.scatterDimsToOperandDims = [0])
    (h2 : d.indexVectorDim = 1) (J : IVec (D2 M 1) 32) (q : Fin M) (k : Fin T) :
    d.resultIdx? (ix1 q) J = some (ix1 k) ↔ (J (ix2 q 0)).toInt = (k.val : ℤ) := by
  have hm : (0 : Fin 1) ∈ d.scatterDimsToOperandDims := by rw [h1]; simp
  have hw : d.window (ix1 q) 0 = 0 := by
    unfold ScatterDims.window
    refine dif_neg fun hmem => ?_
    have := of_decide_eq_true (List.mem_filter.1 hmem).2
    rw [h0] at this
    simp at this
  have hs : d.start (ix1 q) J 0 = (J (ix2 q 0)).toInt := by
    unfold ScatterDims.start
    rw [dif_pos hm]
    refine congrArg (fun z => (J z).toInt) (funext fun a => Fin.ext ?_)
    unfold ScatterDims.siIdx
    match a with
    | ⟨0, _⟩ =>
      rw [dif_neg (by rw [h2]; exact Nat.zero_ne_one)]
      have hq : ∀ z : Fin 1, ((ix1 q : (D1 M).Idx) z).val = q.val := fun z => by rw [Subsingleton.elim z 0]
      exact hq _
    | ⟨1, _⟩ =>
      rw [dif_pos (by rw [h2])]
      show List.idxOf (0 : Fin 1) d.scatterDimsToOperandDims = 0
      rw [h1]; simp
  rw [Routing.resultIdx?_eq_some]
  constructor
  · intro H
    have := H 0
    rw [hs, hw] at this
    rw [Nat.cast_zero, add_zero] at this
    exact this
  · intro H a
    match a with
    | ⟨0, _⟩ =>
      have e : d.start (ix1 q) J 0 + (d.window (ix1 q) 0 : ℤ) = (k.val : ℤ) := by rw [hs, hw, H]; simp
      exact e

/-! ## The statistics -/

variable {b t u m R W P L T M : ℕ} (h : Fits b t u m R W P L T M) (e : Sized b t u m R W P L T M)

/-- The words of a box size stand for its numbers. -/
structure GoodRef (b R : ℕ) (w : RefWords) : Prop where
  box : Ideal.ofBits .f32 w.box = ((b : ℝ) : EReal)
  cap : Ideal.ofBits .f32 w.cap = (((b * b : ℕ) : ℝ) : EReal)
  num : Ideal.ofBits .f32 w.num = (((R * R : ℕ) : ℝ) : EReal)
  icap : w.icap = BitVec.ofNat 32 (b * b)
  ilast : w.ilast = BitVec.ofNat 32 (b * b - 1)

/-- A matrix of count words holds the counts of each image. -/
def HoldsR (e : Sized b t u m R W P L T M) (C : IVec (D2 64 P) 32) (c : Fin 64 → Fin R × Fin R → ℕ) : Prop :=
  ∀ n (p : Fin R × Fin R), C (ix2 n (patchNo e p.1 p.2)) = BitVec.ofNat 32 (c n p)

variable {w : RefWords} {C : IVec (D2 64 P) 32} {c : Fin 64 → Fin R × Fin R → ℕ}

theorem cap_small (e : Sized b t u m R W P L T M) : b * b < 2 ^ 30 := by
  have h1 := e.small; have h2 := e.total; have h3 := e.cap
  omega

theorem cap_pos (e : Sized b t u m R W P L T M) : 0 < b * b := Nat.mul_pos e.pos e.pos

theorem num_pos (e : Sized b t u m R W P L T M) : 0 < R * R := Nat.mul_pos e.some e.some

/-- A patch of an image on the axis of all patches of all images. -/
def allNo (e : Sized b t u m R W P L T M) (n : Fin 64) (p : Fin R × Fin R) : Fin M :=
  ⟨n.val * P + (patchNo e p.1 p.2).val, pair_lt e.all n (patchNo e p.1 p.2)⟩

/-- The slot of a count. -/
def slotOf (L : ℕ) (n k : ℕ) : ℕ := n * L + min k (L - 1)

include e in
theorem slot_small (n : Fin 64) (k : ℕ) : slotOf (b * b) n k < 2 ^ 30 := by
  have h1 := e.small; have h2 := e.total; have h3 := e.cap
  have h4 := cap_pos e
  unfold slotOf
  rw [← h3] at h4 ⊢
  have hn : n.val * L ≤ 63 * L := Nat.mul_le_mul_right _ (by omega)
  omega

include e in
theorem slots_at (hw : GoodRef b R w) (hC : HoldsR e C c) (hc : ∀ n p, c n p ≤ b * b) (n : Fin 64) (p : Fin R × Fin R) :
    slotsR h w.icap w.ilast C (ix1 (allNo e n p)) = BitVec.ofNat 32 (slotOf (b * b) n (c n p)) := by
  have hcs := cap_small e
  have hcn := hc n p
  refine (Routing.cast21 _ h.flat n (patchNo e p.1 p.2) _ rfl).trans ?_
  have h1 : broadcastInDim (D2 64 P) ![0, 1] h.rowsP (muli (broadcastInDim (D2 64 1) ![0] h.col (iotaInDim (D1 64) 32 0))
      (broadcastInDim (D2 64 1) ![] h.col0 (ki w.icap))) (ix2 n (patchNo e p.1 p.2)) = BitVec.ofNat 32 n.val * w.icap := by
    refine (broadcastInDim_apply _ h.rowsP _ _ (ix2 n (0 : Fin 1)) fun a => ?_).trans ?_
    · match a with
      | ⟨0, _⟩ => rfl
      | ⟨1, _⟩ => rfl
    · refine congrArg (fun z => z * w.icap) ?_
      exact (Routing.bcCol h.col (iotaInDim (D1 64) 32 0) n)
  have h2 : minsi C (broadcastInDim (D2 64 P) ![] h.fillP (ki w.ilast)) (ix2 n (patchNo e p.1 p.2)) = BitVec.ofNat 32 (min (c n p) (b * b - 1)) := by
    show IntOp.minsi (C _) w.ilast = _
    rw [hC, hw.ilast, min_word (by omega) (by omega)]
  show _ + _ = _
  rw [h1, h2, hw.icap, ← BitVec.ofNat_mul, ← BitVec.ofNat_add]
  rfl

include e in
/-- The word that a scatter reads for a patch. -/
theorem index_at (hw : GoodRef b R w) (hC : HoldsR e C c) (hc : ∀ n p, c n p ≤ b * b) (n : Fin 64) (p : Fin R × Fin R) :
    (broadcastInDim (D2 M 1) ![0] h.colM (select (cmpi .slt (slotsR h w.icap w.ilast C) (broadcastInDim (D1 M) ![] h.fillM (ki 0#32)))
      (addi (slotsR h w.icap w.ilast C) (broadcastInDim (D1 M) ![] h.fillM (ki w.itotal))) (slotsR h w.icap w.ilast C)) (ix2 (allNo e n p) 0)).toInt =
      (slotOf (b * b) n (c n p) : ℤ) := by
  have hs := slot_small e n (c n p)
  refine (congrArg BitVec.toInt (Routing.bcCol h.colM _ _)).trans ?_
  have hsel : ∀ S : BitVec 32, S = BitVec.ofNat 32 (slotOf (b * b) n (c n p)) →
      (if BitVec.ofBool (S.slt (0#32)) = 1#1 then S + w.itotal else S) = S := fun S hS => by
    have : S.slt (BitVec.ofNat 32 0) = false := by
      rw [hS, Routing.slt_ofNat32 (by omega) (by norm_num)]
      simp
    rw [show (0#32 : BitVec 32) = BitVec.ofNat 32 0 from rfl, this]
    rfl
  have hS := slots_at h e hw hC hc n p
  refine (congrArg BitVec.toInt (hsel _ hS)).trans ?_
  rw [hS, WordArith.toInt_ofNat_small _ (by omega)]

include e in
/-- What a patch adds to the histogram. -/
theorem update_at (hw : GoodRef b R w) (hC : HoldsR e C c) (hc : ∀ n p, c n p ≤ b * b) (n : Fin 64) (p : Fin R × Fin R) :
    shapeCast (D1 M) (uitofp (F := Ideal) .f32 (cmpi .slt C (broadcastInDim (D2 64 P) ![] h.fillP (ki w.icap)))) h.flat (ix1 (allNo e n p)) =
      if c n p < b * b then (1 : EReal) else 0 := by
  have hcs := cap_small e
  have hcn := hc n p
  refine (Routing.cast21 _ h.flat n (patchNo e p.1 p.2) _ rfl).trans ?_
  show (((BitVec.ofBool ((C (ix2 n (patchNo e p.1 p.2))).slt w.icap)).toNat : ℝ) : EReal) = _
  rw [hC n p, hw.icap, Routing.slt_ofNat32 (by omega) (by omega)]
  by_cases hq : c n p < b * b <;> simp [hq]

include e in
/-- A sum over all patches of all images. -/
theorem sum_all (f : Fin M → EReal) : ∑ q, f q = ∑ n : Fin 64, ∑ p : Fin R × Fin R, f (allNo e n p) := by
  rw [sum_pairs e.all]
  refine Finset.sum_congr rfl fun n _ => ?_
  rw [sum_pairs e.num, Fintype.sum_prod_type]
  rfl

/-- The slots of two images meet only where the images are one and the entries are one. -/
theorem slot_iff {L : ℕ} (hL : 0 < L) (n' n : Fin 64) (x : ℕ) (k : Fin L) :
    slotOf L n' x = n.val * L + k.val ↔ n' = n ∧ min x (L - 1) = k.val := by
  unfold slotOf
  have hk := k.isLt
  have hm : min x (L - 1) < L := by omega
  constructor
  · intro H
    have hd : n'.val = n.val := by
      have h1 : (n'.val * L + min x (L - 1)) / L = n'.val := by
        rw [Nat.mul_comm, Nat.mul_add_div hL, Nat.div_eq_of_lt hm, Nat.add_zero]
      have h2 : (n.val * L + k.val) / L = n.val := by
        rw [Nat.mul_comm, Nat.mul_add_div hL, Nat.div_eq_of_lt hk, Nat.add_zero]
      rw [← h1, H, h2]
    rw [hd] at H
    exact ⟨Fin.ext hd, by omega⟩
  · rintro ⟨rfl, H⟩
    rw [H]

include e in
theorem slot_iff' (n' n : Fin 64) (x : ℕ) (k : Fin L) :
    slotOf (b * b) n' x = n.val * L + k.val ↔ n' = n ∧ min x (b * b - 1) = k.val := by
  have h4 := cap_pos e
  have h5 := slot_iff (L := L) (by rw [e.cap]; exact h4) n' n x k
  rw [← e.cap]
  exact h5

/-- A scatter's dimensions: scalars into a vector, one index each. -/
structure Scalars (d : ScatterDims (D1 T) (D2 M 1) (D1 M)) : Prop where
  inserted : d.insertedWindowDims = [0]
  operand : d.scatterDimsToOperandDims = [0]
  index : d.indexVectorDim = 1

variable {d : ScatterDims (D1 T) (D2 M 1) (D1 M)}

include e in
theorem shares_at (hd : Scalars d) (hw : GoodRef b R w) (hC : HoldsR e C c) (hc : ∀ n p, c n p ≤ b * b) (n : Fin 64) (k : Fin L) :
    sharesR h d w.icap w.itotal w.num C (slotsR h w.icap w.ilast C) (ix2 n k) = share (b * b) (R * R) (c n) k := by
  have hL : L = b * b := e.cap
  unfold sharesR
  refine congrArg₂ Ideal.div ?_ hw.num
  refine (Routing.cast12 _ h.table n k ⟨n.val * L + k.val, pair_lt e.total n k⟩ rfl).trans ?_
  refine (?_ : _ = Ideal.ofBits .f32 0x00000000#32 + hist (b * b) (c n) k).trans (by rw [Ideal.ofBits_zero_f32, zero_add])
  refine congrArg (fun z => Ideal.ofBits .f32 0x00000000#32 + z) ?_
  rw [Finset.sum_filter, sum_entries, sum_all e, Finset.sum_eq_single n]
  · unfold hist
    refine Finset.sum_congr rfl fun p _ => ?_
    rw [update_at h e hw hC hc]
    refine if_congr ?_ rfl rfl
    rw [lands d hd.inserted hd.operand hd.index, index_at h e hw hC hc, Nat.cast_inj]
    exact (slot_iff' e n n (c n p) k).trans (and_iff_right rfl)
  · intro n' _ hn
    refine Finset.sum_eq_zero fun p _ => if_neg ?_
    rw [lands d hd.inserted hd.operand hd.index, index_at h e hw hC hc, Nat.cast_inj]
    exact fun H => hn ((slot_iff' e n' n (c n' p) k).mp H).1
  · intro hn; exact absurd (Finset.mem_univ _) hn

/-! ## The normalised histogram and the sums over it -/

theorem over_at (S : FVec Ideal (D2 64 L) .f32) (n : Fin 64) : overR h S (ix1 n) = ∑ k : Fin L, S (ix2 n k) := by
  refine (Ideal.hostReduceAdd_r2_a1 h.bins S _ _).trans ?_
  show Ideal.ofBits .f32 0x00000000#32 + _ = _
  rw [Ideal.ofBits_zero_f32, zero_add]
  rfl

theorem every_at (v : FVec Ideal (D1 L) .f32) (n : Fin 64) (k : Fin L) : everyR h v (ix2 n k) = v (ix1 k) :=
  Routing.bcCols h.bin1 h.colsL v n k

include e in
theorem next_word (k : Fin L) : nextR h (ix1 k) = (((k.val : ℝ) + 1 : ℝ) : EReal) := by
  have h1 := e.small; have h2 := e.total; have h3 := k.isLt
  show Ideal.ofBits .f32 0x3F800000#32 + (((BitVec.ofNat 32 k.val).toInt : ℝ) : EReal) = _
  rw [Ideal.ofBits_one_f32, WordArith.toInt_ofNat_small _ (by omega), add_comm, EReal.coe_add, EReal.coe_one]
  norm_cast

include e in
theorem probs_at (hd : Scalars d) (hw : GoodRef b R w) (hC : HoldsR e C c) (hc : ∀ n p, c n p ≤ b * b) (n : Fin 64) (k : Fin L) :
    probsOfR h d w C (ix2 n k) = prob L (R * R) (c n) k := by
  have hs : ∀ k : Fin L, sharesR h d w.icap w.itotal w.num C (slotsR h w.icap w.ilast C) (ix2 n k) = share L (R * R) (c n) k := fun k => by
    exact (shares_at h e hd hw hC hc n k).trans (congrArg (fun z => share z (R * R) (c n) k.val) e.cap.symm)
  unfold probsOfR probsR
  refine congrArg₂ Ideal.div (hs k) ?_
  refine (Routing.bcRows h.col h.rowsL _ n k).trans ?_
  refine (over_at h _ n).trans ?_
  exact Finset.sum_congr rfl fun l _ => hs l

section Values

variable (hd : Scalars d) (hw : GoodRef b R w) (hC : HoldsR e C c) (hc : ∀ n p, c n p ≤ b * b)
include hd hw hC hc

theorem fdR_eq (n : Fin 64) : fdR h (probsOfR h d w C) (nextR h) (ix1 n) = fd L (c n) := by
  have hL : 0 < L := by rw [e.cap]; exact cap_pos e
  rw [← fd_of_prob hL (num_pos e) (c n)]
  refine (over_at h _ n).trans (Finset.sum_congr rfl fun k _ => ?_)
  refine congrArg₂ Ideal.div (probs_at h e hd hw hC hc n k) ?_
  rw [every_at, next_word h e]

theorem meanR_eq (n : Fin 64) : meanR h (probsOfR h d w C) (nextR h) (ix1 n) = mean L (c n) fun k => (k : ℝ) + 1 := by
  have hL : 0 < L := by rw [e.cap]; exact cap_pos e
  rw [← sum_prob hL (num_pos e) (c n) _ fun k => by positivity]
  refine (over_at h _ n).trans (Finset.sum_congr rfl fun k _ => ?_)
  refine congrArg₂ (fun x y : EReal => x * y) (probs_at h e hd hw hC hc n k) ?_
  rw [every_at, next_word h e]

theorem lacR_eq (n : Fin 64) : lacR h (probsOfR h d w C) (nextR h)
    (mulf (meanR h (probsOfR h d w C) (nextR h)) (meanR h (probsOfR h d w C) (nextR h))) (ix1 n) = lac L (c n) := by
  have hL : 0 < L := by rw [e.cap]; exact cap_pos e
  have hm := meanR_eq h e hd hw hC hc n
  have hsq : mulf (meanR h (probsOfR h d w C) (nextR h)) (meanR h (probsOfR h d w C) (nextR h)) (ix1 n) = mu1sq L (c n) :=
    congrArg₂ (fun x y : EReal => x * y) hm hm
  have hp : overR h (mulf (probsOfR h d w C) (everyR h (mulf (nextR h) (nextR h)))) (ix1 n) =
      mean L (c n) fun k => ((k : ℝ) + 1) * ((k : ℝ) + 1) := by
    rw [← sum_prob hL (num_pos e) (c n) _ fun k => by positivity]
    refine (over_at h _ n).trans (Finset.sum_congr rfl fun k _ => ?_)
    refine congrArg₂ (fun x y : EReal => x * y) (probs_at h e hd hw hC hc n k) ?_
    rw [every_at, EReal.coe_mul]
    exact congrArg₂ (fun x y : EReal => x * y) (next_word h e k) (next_word h e k)
  exact congrArg₂ Ideal.div (congrArg₂ (fun x y : EReal => x - y) hp hsq) hsq

omit hd in
theorem pqR_eq (n : Fin 64) : pqR h w.cap w.num C (ix1 n) = pq (b * b) (R * R) threshold (c n) := by
  have hcs := cap_small e
  refine congrArg₂ Ideal.div ?_ hw.num
  refine (Ideal.hostReduceAdd_r2_a1 h.patches _ _ _).trans ?_
  refine (?_ : Ideal.ofBits .f32 0x00000000#32 + _ = _)
  rw [Ideal.ofBits_zero_f32, zero_add, sum_pairs e.num, Fintype.sum_prod_type]
  refine Finset.sum_congr rfl fun i _ => Finset.sum_congr rfl fun j _ => ?_
  have hcn := hc n (i, j)
  show (((BitVec.ofBool (decide (Ideal.ofBits .f32 0x3F17BE77#32 ≤
    Ideal.div (((C (ix2 n (patchNo e i j))).toInt : ℝ) : EReal) (Ideal.ofBits .f32 w.cap)))).toNat : ℝ) : EReal) = _
  rw [hC n (i, j), WordArith.toInt_ofNat_small _ (by omega), hw.cap]
  unfold threshold
  by_cases hq : Ideal.ofBits .f32 0x3F17BE77#32 ≤ Ideal.div (((c n (i, j) : ℤ) : ℝ) : EReal) (((b * b : ℕ) : ℝ) : EReal)
  · rw [decide_eq_true hq]
    rw [if_pos (by simpa using hq)]
    simp
  · rw [decide_eq_false hq]
    rw [if_neg (by simpa using hq)]
    simp

end Values

include e in
/-- A statistic of an image, by the reference. -/
theorem stat_at (hd : Scalars d) (hw : GoodRef b R w) (D k : Fin 3) (X : Images) (n : Fin 64) :
    statR h d w k (countsR h w.box (testR h D X)) (ix1 n) = feature D b t R 224 k (img X n) := by
  have hC : HoldsR e (countsR h w.box (testR h D X)) fun n => counts D b t R 224 (img X n) := fun n p =>
    count_at h e D X n p.1 p.2 hw.box
  have hc : ∀ n p, counts D b t R 224 (img X n) p ≤ b * b := fun n p => counts_le _ _ _ _ _ _ p
  match k with
  | 0 => exact (fdR_eq h e hd hw hC hc n).trans (by rw [e.cap]; rfl)
  | 1 => exact (lacR_eq h e hd hw hC hc n).trans (by rw [e.cap]; rfl)
  | 2 => exact (pqR_eq h e hw hC hc n)

end Cert.Boxes

end
-- ==== Proof.RefRun.lean ====
/-
  The reference's run in terms of the operations of `RefDef.lean`.
-/
module

public import proofs.«01_k».proof.Proof.RefDef
public import proofs.«01_k».proof.Proof.RowValue
public import proofs.«01_k».proof.Proof.Gen.ReferenceIdeal.Run

@[expose] public section

set_option maxRecDepth 16384

noncomputable section

namespace Cert.Boxes

open Cert.ReferenceIdeal Cert.ReferenceIdeal.Gen Cert.ReferenceIdeal.Value Idealize.ShloMosaic

/-- The shape facts of box size 3. -/
theorem fits3 : Fits 3 0 1 1 75 225 5625 9 576 360000 := by constructor <;> decide

/-- The shape facts of box size 5. -/
theorem fits5 : Fits 5 0 1 2 45 225 2025 25 1600 129600 := by constructor <;> decide

/-- The shape facts of box size 7. -/
theorem fits7 : Fits 7 0 0 3 32 224 1024 49 3136 65536 := by constructor <;> decide

/-- The shape facts of box size 9. -/
theorem fits9 : Fits 9 0 1 4 25 225 625 81 5184 40000 := by constructor <;> decide

/-- The shape facts of box size 11. -/
theorem fits11 : Fits 11 3 4 5 21 231 441 121 7744 28224 := by constructor <;> decide

variable (V0 : Valuation τ sig (Elt Ideal))

/-- The images. -/
abbrev argR : FVec Ideal (D4 64 224 224 3) .f32 := V0 (Proc.devRef .tc main_arg0)

/-- The words of box size 3. -/
abbrev words3 : RefWords := ⟨0x40400000#32, 0x41100000#32, 0x45AFC800#32, 9#32, 8#32, 576#32⟩

/-- The scatter of box size 3. -/
abbrev scat3 : ScatterDims (D1 576) (D2 360000 1) (D1 360000) := scatter_S576_S360000x1_S360000_n_0_0_1

/-- The counts of box size 3 at a distance. -/
abbrev cnt3 (d : Fin 3) : IVec (D2 64 5625) 32 := countsR fits3 words3.box (testR fits3 d (argR V0))

/-- A statistic of box size 3 at a distance. -/
abbrev stat3 (d k : Fin 3) : FVec Ideal (D1 64) .f32 := statR fits3 scat3 words3 k (cnt3 V0 d)

/-- The words of box size 5. -/
abbrev words5 : RefWords := ⟨0x40A00000#32, 0x41C80000#32, 0x44FD2000#32, 25#32, 24#32, 1600#32⟩

/-- The scatter of box size 5. -/
abbrev scat5 : ScatterDims (D1 1600) (D2 129600 1) (D1 129600) := scatter_S1600_S129600x1_S129600_n_0_0_1

/-- The counts of box size 5 at a distance. -/
abbrev cnt5 (d : Fin 3) : IVec (D2 64 2025) 32 := countsR fits5 words5.box (testR fits5 d (argR V0))

/-- A statistic of box size 5 at a distance. -/
abbrev stat5 (d k : Fin 3) : FVec Ideal (D1 64) .f32 := statR fits5 scat5 words5 k (cnt5 V0 d)

/-- The words of box size 7. -/
abbrev words7 : RefWords := ⟨0x40E00000#32, 0x42440000#32, 0x44800000#32, 49#32, 48#32, 3136#32⟩

/-- The scatter of box size 7. -/
abbrev scat7 : ScatterDims (D1 3136) (D2 65536 1) (D1 65536) := scatter_S3136_S65536x1_S65536_n_0_0_1

/-- The counts of box size 7 at a distance. -/
abbrev cnt7 (d : Fin 3) : IVec (D2 64 1024) 32 := countsR fits7 words7.box (testR fits7 d (argR V0))

/-- A statistic of box size 7 at a distance. -/
abbrev stat7 (d k : Fin 3) : FVec Ideal (D1 64) .f32 := statR fits7 scat7 words7 k (cnt7 V0 d)

/-- The words of box size 9. -/
abbrev words9 : RefWords := ⟨0x41100000#32, 0x42A20000#32, 0x441C4000#32, 81#32, 80#32, 5184#32⟩

/-- The scatter of box size 9. -/
abbrev scat9 : ScatterDims (D1 5184) (D2 40000 1) (D1 40000) := scatter_S5184_S40000x1_S40000_n_0_0_1

/-- The counts of box size 9 at a distance. -/
abbrev cnt9 (d : Fin 3) : IVec (D2 64 625) 32 := countsR fits9 words9.box (testR fits9 d (argR V0))

/-- A statistic of box size 9 at a distance. -/
abbrev stat9 (d k : Fin 3) : FVec Ideal (D1 64) .f32 := statR fits9 scat9 words9 k (cnt9 V0 d)

/-- The words of box size 11. -/
abbrev words11 : RefWords := ⟨0x41300000#32, 0x42F20000#32, 0x43DC8000#32, 121#32, 120#32, 7744#32⟩

/-- The scatter of box size 11. -/
abbrev scat11 : ScatterDims (D1 7744) (D2 28224 1) (D1 28224) := scatter_S7744_S28224x1_S28224_n_0_0_1

/-- The counts of box size 11 at a distance. -/
abbrev cnt11 (d : Fin 3) : IVec (D2 64 441) 32 := countsR fits11 words11.box (testR fits11 d (argR V0))

/-- A statistic of box size 11 at a distance. -/
abbrev stat11 (d k : Fin 3) : FVec Ideal (D1 64) .f32 := statR fits11 scat11 words11 k (cnt11 V0 d)

/-- The column of a lane. -/
def column (l : Fin 45) : FVec Ideal (D2 64 1) .f32 :=
  match eOf l with
  | 0 => columnR fits3 (stat3 V0 (dOf l) (kOf l))
  | 1 => columnR fits5 (stat5 V0 (dOf l) (kOf l))
  | 2 => columnR fits7 (stat7 V0 (dOf l) (kOf l))
  | 3 => columnR fits9 (stat9 V0 (dOf l) (kOf l))
  | 4 => columnR fits11 (stat11 V0 (dOf l) (kOf l))

/-- The columns of `n` lanes from lane `o` on. -/
def columns (o n : ℕ) (h : o + n ≤ 45) : List ((s : Shape) × (s.Idx → EReal)) :=
  List.ofFn fun l : Fin n => ⟨D2 64 1, column V0 ⟨o + l.val, by have := l.isLt; omega⟩⟩

/-- Columns 0 to 15. -/
theorem part1025 : res_main_v1025 V0 = concatenate S64x16 1 (columns V0 0 16 (by decide))
    concatenates_S64x1_S64x1_S64x1_S64x1_S64x1_S64x1_S64x1_S64x1_S64x1_S64x1_S64x1_S64x1_S64x1_S64x1_S64x1_S64x1_S64x16_d1 := rfl

/-- Columns 16 to 31. -/
theorem part1026 : res_main_v1026 V0 = concatenate S64x16 1 (columns V0 16 16 (by decide))
    concatenates_S64x1_S64x1_S64x1_S64x1_S64x1_S64x1_S64x1_S64x1_S64x1_S64x1_S64x1_S64x1_S64x1_S64x1_S64x1_S64x1_S64x16_d1 := rfl

/-- Columns 32 to 44. -/
theorem part1027 : res_main_v1027 V0 = concatenate S64x13 1 (columns V0 32 13 (by decide))
    concatenates_S64x1_S64x1_S64x1_S64x1_S64x1_S64x1_S64x1_S64x1_S64x1_S64x1_S64x1_S64x1_S64x1_S64x13_d1 := rfl

end Cert.Boxes

end
-- ==== Proof.RefValue.lean ====
/-
  The reference's result: the answers of the images.
-/
module

public import proofs.«01_k».proof.Proof.RefStat
public import proofs.«01_k».proof.Proof.RefRun
public import proofs.«01_k».proof.Proof.RowValue

@[expose] public section

set_option maxRecDepth 16384

noncomputable section

namespace Cert.Boxes

open Cert.ReferenceIdeal Cert.ReferenceIdeal.Gen Cert.ReferenceIdeal.Value
open Idealize.ShloMosaic.ValueIdx
open Idealize.ShloMosaic hiding ix1 ix2 ix3 ix4 ix5 ix6
open scoped BigOperators

/-! ## The five box sizes -/

/-- The sizes of box size 3. -/
theorem sized3 : Sized 3 0 1 1 75 225 5625 9 576 360000 := by
  refine ⟨by norm_num, by norm_num, by norm_num, by norm_num, by norm_num, by norm_num, by norm_num, by norm_num, by norm_num, fun i => ?_, by norm_num⟩
  have := i.isLt
  constructor <;> omega

/-- The words of box size 3. -/
theorem ref3 : GoodRef 3 75 words3 := ⟨good3.box, good3.cap, good3.num, rfl, rfl⟩

/-- The sizes of box size 5. -/
theorem sized5 : Sized 5 0 1 2 45 225 2025 25 1600 129600 := by
  refine ⟨by norm_num, by norm_num, by norm_num, by norm_num, by norm_num, by norm_num, by norm_num, by norm_num, by norm_num, fun i => ?_, by norm_num⟩
  have := i.isLt
  constructor <;> omega

/-- The words of box size 5. -/
theorem ref5 : GoodRef 5 45 words5 := ⟨good5.box, good5.cap, good5.num, rfl, rfl⟩

/-- The sizes of box size 7. -/
theorem sized7 : Sized 7 0 0 3 32 224 1024 49 3136 65536 := by
  refine ⟨by norm_num, by norm_num, by norm_num, by norm_num, by norm_num, by norm_num, by norm_num, by norm_num, by norm_num, fun i => ?_, by norm_num⟩
  have := i.isLt
  constructor <;> omega

/-- The words of box size 7. -/
theorem ref7 : GoodRef 7 32 words7 := ⟨good7.box, good7.cap, good7.num, rfl, rfl⟩

/-- The sizes of box size 9. -/
theorem sized9 : Sized 9 0 1 4 25 225 625 81 5184 40000 := by
  refine ⟨by norm_num, by norm_num, by norm_num, by norm_num, by norm_num, by norm_num, by norm_num, by norm_num, by norm_num, fun i => ?_, by norm_num⟩
  have := i.isLt
  constructor <;> omega

/-- The words of box size 9. -/
theorem ref9 : GoodRef 9 25 words9 := ⟨good9.box, good9.cap, good9.num, rfl, rfl⟩

/-- The sizes of box size 11. -/
theorem sized11 : Sized 11 3 4 5 21 231 441 121 7744 28224 := by
  refine ⟨by norm_num, by norm_num, by norm_num, by norm_num, by norm_num, by norm_num, by norm_num, by norm_num, by norm_num, fun i => ?_, by norm_num⟩
  have := i.isLt
  constructor <;> omega

/-- The words of box size 11. -/
theorem ref11 : GoodRef 11 21 words11 := ⟨good11.box, good11.cap, good11.num, rfl, rfl⟩

variable (V0 : Valuation τ sig (Elt Ideal))

/-- A column of box size 3. -/
theorem col3 (d k : Fin 3) (n : Fin 64) : columnR fits3 (stat3 V0 d k) (ix2 n 0) = feature d 3 0 75 224 k (img (argR V0) n) :=
  (Routing.bcCol fits3.col _ n).trans (stat_at fits3 sized3 ⟨rfl, rfl, rfl⟩ ref3 d k (argR V0) n)

/-- A column of box size 5. -/
theorem col5 (d k : Fin 3) (n : Fin 64) : columnR fits5 (stat5 V0 d k) (ix2 n 0) = feature d 5 0 45 224 k (img (argR V0) n) :=
  (Routing.bcCol fits5.col _ n).trans (stat_at fits5 sized5 ⟨rfl, rfl, rfl⟩ ref5 d k (argR V0) n)

/-- A column of box size 7. -/
theorem col7 (d k : Fin 3) (n : Fin 64) : columnR fits7 (stat7 V0 d k) (ix2 n 0) = feature d 7 0 32 224 k (img (argR V0) n) :=
  (Routing.bcCol fits7.col _ n).trans (stat_at fits7 sized7 ⟨rfl, rfl, rfl⟩ ref7 d k (argR V0) n)

/-- A column of box size 9. -/
theorem col9 (d k : Fin 3) (n : Fin 64) : columnR fits9 (stat9 V0 d k) (ix2 n 0) = feature d 9 0 25 224 k (img (argR V0) n) :=
  (Routing.bcCol fits9.col _ n).trans (stat_at fits9 sized9 ⟨rfl, rfl, rfl⟩ ref9 d k (argR V0) n)

/-- A column of box size 11. -/
theorem col11 (d k : Fin 3) (n : Fin 64) : columnR fits11 (stat11 V0 d k) (ix2 n 0) = feature d 11 3 21 224 k (img (argR V0) n) :=
  (Routing.bcCol fits11.col _ n).trans (stat_at fits11 sized11 ⟨rfl, rfl, rfl⟩ ref11 d k (argR V0) n)

/-- The column of a lane holds the lane's answers. -/
theorem column_at (l : Fin 45) (n : Fin 64) : column V0 l (ix2 n 0) = answer (img (argR V0) n) l := by
  unfold column answer lanes
  generalize eOf l = i
  match i with
  | 0 => exact col3 V0 _ _ n
  | 1 => exact col5 V0 _ _ n
  | 2 => exact col7 V0 _ _ n
  | 3 => exact col9 V0 _ _ n
  | 4 => exact col11 V0 _ _ n

/-! ## The columns side by side -/

/-- A column of a matrix made of columns. -/
theorem piece {K : ℕ} (xs : List ((s : Shape) × (s.Idx → EReal))) (hc : Shape.Concatenates (xs.map (·.1)) (D2 64 K) 1) (n : Fin 64) (l : Fin K)
    (hl : l.val < xs.length) (x : (D2 64 1).Idx → EReal) (hx : xs[l.val] = ⟨D2 64 1, x⟩)
    (hs : xs.map (·.1) = List.replicate xs.length (D2 64 1)) :
    concatenate (D2 64 K) 1 xs hc (ix2 n l) = x (ix2 n 0) := by
  have hp : (((xs.take l.val).map (·.1)).map fun s => if h : s.rank = (D2 64 K).rank then s.size ((1 : Fin 2).cast h.symm) else 0).sum = l.val := by
    rw [List.map_take, hs, List.take_replicate, List.map_replicate, List.sum_replicate, Nat.min_eq_left hl.le]
    exact Nat.mul_one _
  refine concatenate_apply_piece (t := D2 64 K) 1 xs hc (ix2 n l) l.val hl (D2 64 1) x hx rfl l.val hp (ix2 n 0) (fun a ha => ?_) rfl
  match a with
  | ⟨0, _⟩ => rfl
  | ⟨1, _⟩ => exact absurd rfl ha

theorem columns_length (o k : ℕ) (h : o + k ≤ 45) : (columns V0 o k h).length = k := List.length_ofFn

/-- The columns of lanes `o` to `o + k - 1` side by side. -/
theorem columns_at (o k : ℕ) (h : o + k ≤ 45) (hc : Shape.Concatenates ((columns V0 o k h).map (·.1)) (D2 64 k) 1) (n : Fin 64) (l : Fin k) :
    concatenate (D2 64 k) 1 (columns V0 o k h) hc (ix2 n l) = answer (img (argR V0) n) ⟨o + l.val, by have := l.isLt; omega⟩ := by
  have hs : (columns V0 o k h).map (·.1) = List.replicate (columns V0 o k h).length (D2 64 1) := by
    rw [columns_length]
    unfold columns
    rw [List.map_ofFn]
    exact List.ofFn_const k _
  refine (piece _ hc n l (by rw [columns_length]; exact l.isLt) (column V0 ⟨o + l.val, by have := l.isLt; omega⟩) ?_ hs).trans (column_at V0 _ n)
  unfold columns
  rw [List.getElem_ofFn]

/-- Columns 0 to 15. -/
theorem at1025 (n : Fin 64) (l : Fin 16) : res_main_v1025 V0 (ix2 n l) = answer (img (argR V0) n) ⟨0 + l.val, by omega⟩ :=
  (congrFun (part1025 V0) _).trans (columns_at V0 0 16 _ _ n l)

/-- Columns 16 to 31. -/
theorem at1026 (n : Fin 64) (l : Fin 16) : res_main_v1026 V0 (ix2 n l) = answer (img (argR V0) n) ⟨16 + l.val, by omega⟩ :=
  (congrFun (part1026 V0) _).trans (columns_at V0 16 16 _ _ n l)

/-- Columns 32 to 44. -/
theorem at1027 (n : Fin 64) (l : Fin 13) : res_main_v1027 V0 (ix2 n l) = answer (img (argR V0) n) ⟨32 + l.val, by omega⟩ :=
  (congrFun (part1027 V0) _).trans (columns_at V0 32 13 _ _ n l)

/-- The columns of all three distances. -/
theorem all_at (n : Fin 64) (l : Fin 45) :
    concatenate S64x45 1 [⟨S64x16, res_main_v1025 V0⟩, ⟨S64x16, res_main_v1026 V0⟩, ⟨S64x13, res_main_v1027 V0⟩]
      concatenates_S64x16_S64x16_S64x13_S64x45_d1 (ix2 n l) = answer (img (argR V0) n) l := by
  have hl := l.isLt
  rcases Nat.lt_or_ge l.val 16 with h | h
  · refine (concatenate_apply_piece (t := S64x45) 1 _ _ (ix2 n l) 0 (by simp) S64x16 (res_main_v1025 V0) rfl rfl 0 rfl
      (ix2 n ⟨l.val, h⟩) (fun a ha => ?_) ?_).trans ((at1025 V0 n ⟨l.val, h⟩).trans (congrArg _ (Fin.ext ?_)))
    · match a with
      | ⟨0, _⟩ => rfl
      | ⟨1, _⟩ => exact absurd rfl ha
    · show 0 + l.val = l.val
      omega
    · show 0 + l.val = l.val
      omega
  rcases Nat.lt_or_ge l.val 32 with h' | h'
  · refine (concatenate_apply_piece (t := S64x45) 1 _ _ (ix2 n l) 1 (by simp) S64x16 (res_main_v1026 V0) rfl rfl 16 rfl
      (ix2 n ⟨l.val - 16, by omega⟩) (fun a ha => ?_) ?_).trans ((at1026 V0 n ⟨l.val - 16, by omega⟩).trans (congrArg _ (Fin.ext ?_)))
    · match a with
      | ⟨0, _⟩ => rfl
      | ⟨1, _⟩ => exact absurd rfl ha
    · show 16 + (l.val - 16) = l.val
      omega
    · show 16 + (l.val - 16) = l.val
      omega
  · refine (concatenate_apply_piece (t := S64x45) 1 _ _ (ix2 n l) 2 (by simp) S64x13 (res_main_v1027 V0) rfl rfl 32 rfl
      (ix2 n ⟨l.val - 32, by omega⟩) (fun a ha => ?_) ?_).trans ((at1027 V0 n ⟨l.val - 32, by omega⟩).trans (congrArg _ (Fin.ext ?_)))
    · match a with
      | ⟨0, _⟩ => rfl
      | ⟨1, _⟩ => exact absurd rfl ha
    · show 32 + (l.val - 32) = l.val
      omega
    · show 32 + (l.val - 32) = l.val
      omega

/-- The reference's result at an image of a batch and a lane. -/
theorem ref_at (i j : Fin 8) (l : Fin 45) :
    shapeCast S8x8x45 (concatenate S64x45 1 [⟨S64x16, res_main_v1025 V0⟩, ⟨S64x16, res_main_v1026 V0⟩, ⟨S64x13, res_main_v1027 V0⟩]
      concatenates_S64x16_S64x16_S64x13_S64x45_d1) shapeCasts_S64x45_S8x8x45 (ix3 i j l) =
      answer (img (argR V0) ⟨8 * i.val + j.val, by omega⟩) l := by
  refine (Idealize.ShloMosaic.shapeCast_apply _ _ _ (ix2 ⟨8 * i.val + j.val, by omega⟩ l) ?_).trans (all_at V0 _ l)
  rw [Shape.rowMajor_val_two, Shape.rowMajor_val_three]
  show (8 * i.val + j.val) * 45 + l.val = (i.val * 8 + j.val) * 45 + l.val
  ring

end Cert.Boxes

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelArray
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The reference's frame: its run read at the argument; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result array holds the answers of the images of its argument. -/
theorem reference_answers (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v1029) =
          Cert.Boxes.answers (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0) =
          m ((c.tc : Thread Cert.ReferenceIdeal.nD Cert.ReferenceIdeal.τ).loc Cert.ReferenceIdeal.main_arg0)) := by
  refine (θ_run Cert.ReferenceIdeal.defs _ _).mono (fun _ h c => ⟨(h c).1.trans ?_, (h c).2⟩)
    (Cert.ReferenceIdeal.Value.run (F := Ideal) m ρ)
  funext i
  have e : (i : (⟨3, ![8, 8, 45]⟩ : Shape).Idx) = ValueIdx.ix3 (i 0) (i 1) (i 2) := by
    funext a
    match a with
    | ⟨0, _⟩ => rfl
    | ⟨1, _⟩ => rfl
    | ⟨2, _⟩ => rfl
  exact (congrArg _ e).trans (Cert.Boxes.ref_at (StableHlo.launchContents m c) (i 0) (i 1) (i 2))

/-- Over the extended reals the kernel and the reference end with equal results: the answers of the images. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.Boxes.answers (m ((c.tc : Thread Cert.KernelIdeal.nD Cert.KernelIdeal.τ).loc Cert.KernelIdeal.main_arg0)), ?_, ?_⟩
  · exact (θ_run Cert.KernelIdeal.defs _ _).mono (fun _ h c => ⟨(h c).1.trans (Cert.Boxes.array_eq m c), (h c).2⟩)
      (Cert.KernelIdeal.Value.run_blocks m ρ)
  · exact (θ_run Cert.ReferenceIdeal.defs _ _).mono
      (fun _ h c => ⟨(h c).1.trans (congrArg Cert.Boxes.answers (hagree c)), (h c).2⟩) (reference_answers m' ρ')

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
